-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S8x512x4096 : Shape := ⟨3, ![8, 512, 4096]⟩
abbrev S2x512x2048 : Shape := ⟨3, ![2, 512, 2048]⟩
abbrev S4 : Shape := ⟨1, ![4]⟩
abbrev S2 : Shape := ⟨1, ![2]⟩
abbrev S_ : Shape := ⟨0, ![]⟩
abbrev S2x512x4096 : Shape := ⟨3, ![2, 512, 4096]⟩
abbrev S1x512x4096 : Shape := ⟨3, ![1, 512, 4096]⟩
abbrev S512x4096 : Shape := ⟨2, ![512, 4096]⟩
abbrev S512x2048 : Shape := ⟨2, ![512, 2048]⟩
abbrev S1x512x2048 : Shape := ⟨3, ![1, 512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .i8⟩
  | .local _ .vmem, ⟨1, _⟩ => ⟨S4096x2048, .i8⟩
  | .local _ .vmem, ⟨2, _⟩ => ⟨S1, .f32⟩
  | .local _ .vmem, ⟨3, _⟩ => ⟨S1, .f32⟩
  | .local _ .vmem, ⟨4, _⟩ => ⟨S8x512x4096, .i8⟩
  | .local _ .vmem, ⟨5, _⟩ => ⟨S4096x2048, .bf16⟩
  | .local _ .vmem, ⟨6, _⟩ => ⟨S2x512x2048, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v24 : BitVec 32 := Scalar.muli v7 c1_i32_18
  let v25 : BitVec 32 := Scalar.addi c0_i32_19 v24
  v25.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_28 : BitVec 32 := 1#32
  let v32 : BitVec 32 := Scalar.muli v5 c1_i32_28
  let v33 : BitVec 32 := Scalar.addi c0_i32_29 v32
  v33.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v46 : BitVec 32 := Scalar.muli v2 c1024_i32
  let c0_i32_50 : BitVec 32 := 0#32
  ![v46.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_53 : BitVec 32 := 1024#32
  let v62 : BitVec 32 := Scalar.muli v2 c1024_i32_53
  let c512_i32 : BitVec 32 := 512#32
  let v63 : BitVec 32 := Scalar.addi v62 c512_i32
  let c0_i32_64 : BitVec 32 := 0#32
  ![v63.toNat, 0]
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_80 : BitVec 32 := 1#32
  let v85 : BitVec 32 := Scalar.muli v7 c1_i32_80
  let v86 : BitVec 32 := Scalar.addi c0_i32_81 v85
  v86.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_97 : BitVec 32 := 1#32
  let v101 : BitVec 32 := Scalar.muli v5 c1_i32_97
  let v102 : BitVec 32 := Scalar.addi c0_i32_98 v101
  v102.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_103 : BitVec 32 := 1024#32
  let v111 : BitVec 32 := Scalar.muli v5 c1024_i32_103
  let c0_i32_119 : BitVec 32 := 0#32
  ![v111.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_122 : BitVec 32 := 1024#32
  let v132 : BitVec 32 := Scalar.muli v5 c1024_i32_122
  let c512_i32_123 : BitVec 32 := 512#32
  let v133 : BitVec 32 := Scalar.addi v132 c512_i32_123
  let c0_i32_139 : BitVec 32 := 0#32
  ![v133.toNat, 0]
def k0_off5 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_142 : BitVec 32 := 1024#32
  let v154 : BitVec 32 := Scalar.muli v7 c1024_i32_142
  let c0_i32_158 : BitVec 32 := 0#32
  ![v154.toNat, 0]
def k0_off6 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_161 : BitVec 32 := 1024#32
  let v175 : BitVec 32 := Scalar.muli v7 c1024_i32_161
  let c512_i32_162 : BitVec 32 := 512#32
  let v176 : BitVec 32 := Scalar.addi v175 c512_i32_162
  let c0_i32_178 : BitVec 32 := 0#32
  ![v176.toNat, 0]
abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Devices.lean ====
/-
# The ring of four devices, the buffers and the semaphores

Device `c`'s right neighbour is `nxt c`, its left neighbour `prv c`, and the device across the ring `opp c`. This module
names them, evaluates the kernel's computed device numbers to them, and names the buffers and the semaphores of the
kernel that its proof speaks about.
-/
module

public import proofs.«01_k».proof.Proof.Gen.KernelIdeal

@[expose] public section

noncomputable section

namespace Cert.GatherMatmul

open Cert.KernelIdeal Cert.KernelIdeal.Gen
open Idealize.ShloMosaic Idealize.ShloMosaic.TcCoe

/-! ## Neighbours -/

set_option backward.proofsInPublic true in
/-- The right neighbour. -/
def nxt (c : Dev nD) : Dev nD := ⟨(c.val + 1) % 4, Nat.mod_lt _ (by decide)⟩
set_option backward.proofsInPublic true in
/-- The device across the ring. -/
def opp (c : Dev nD) : Dev nD := ⟨(c.val + 2) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem opp_nxt (c : Dev nD) : opp (nxt c) = prv c := by revert c; decide
theorem opp_prv (c : Dev nD) : opp (prv c) = nxt c := by revert c; decide

/-- One step to the right, as a permutation of the devices. -/
def ring : Dev nD ≃ Dev nD := ⟨nxt, prv, prv_nxt, nxt_prv⟩

/-- The kernel signals its left neighbour first and its right neighbour second; -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
/-- its four transfers go right, left, right, left. -/
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)

/-- Whose rows of `x` the pair `n` of device `c`'s gather slots holds: pair 0 its own, pair 1 its left neighbour's,
    pair 2 its right neighbour's, pair 3 those of the device across. -/
def srcDev (c : Dev nD) : ℕ → Dev nD
  | 0 => c
  | 1 => prv c
  | 2 => nxt c
  | _ => opp c

/-! ## Buffers -/

/-- The operands' staging buffers: `x`'s rows, `w`'s columns, the two scales; -/
abbrev xM : Memref sig .tc .vmem S1024x4096 .i8 := Memref.whole cc0_stg0_0
abbrev wM : Memref sig .tc .vmem S4096x2048 .i8 := Memref.whole cc0_stg1_0
abbrev sxM : Memref sig .tc .vmem S1 .f32 := Memref.whole cc0_stg2_0
abbrev swM : Memref sig .tc .vmem S1 .f32 := Memref.whole cc0_stg3_0
/-- the result array, in HBM; -/
abbrev outM : Memref sig .tc .hbm S4096x2048 .f32 := Memref.whole main_v1
/-- the eight gather slots, the weights as bf16, the two staging tiles of the result. -/
abbrev commM : Memref sig .tc .vmem S8x512x4096 .i8 := Memref.whole cc0_scratch0
abbrev wbfM : Memref sig .tc .vmem S4096x2048 .bf16 := Memref.whole cc0_scratch1
abbrev stageM : Memref sig .tc .vmem S2x512x2048 .f32 := Memref.whole cc0_scratch2

/-- Two neighbouring gather slots from slot `s` on, one gather slot, and one gather slot without its unit axis; -/
abbrev pairM (s : ℕ) (h : ∀ a, (![s, 0, 0] : Fin 3 → ℕ) a + S2x512x4096.size a ≤ S8x512x4096.size a) :
    Memref sig .tc .vmem S2x512x4096 .i8 :=
  commM.slice (Rect.unit (s := S8x512x4096) ![s, 0, 0] S2x512x4096.size h) (fun _ => rfl)
abbrev oneM (s : ℕ) (h : ∀ a, (![s, 0, 0] : Fin 3 → ℕ) a + S1x512x4096.size a ≤ S8x512x4096.size a) :
    Memref sig .tc .vmem S1x512x4096 .i8 :=
  commM.slice (Rect.unit (s := S8x512x4096) ![s, 0, 0] S1x512x4096.size h) (fun _ => rfl)
abbrev slotM (s : ℕ) (h : ∀ a, (![s, 0, 0] : Fin 3 → ℕ) a + S1x512x4096.size a ≤ S8x512x4096.size a) :
    Memref sig .tc .vmem S512x4096 .i8 :=
  (oneM s h).squeeze S512x4096 squeezes_S1x512x4096_S512x4096
/-- one staging tile without its unit axis, and 512 rows of the result from offset `o` on. -/
abbrev tileM (p : ℕ) (h : ∀ a, (![p, 0, 0] : Fin 3 → ℕ) a + S1x512x2048.size a ≤ S2x512x2048.size a) :
    Memref sig .tc .vmem S512x2048 .f32 :=
  (stageM.slice (Rect.unit (s := S2x512x2048) ![p, 0, 0] S1x512x2048.size h) (fun _ => rfl)).squeeze S512x2048
    squeezes_S1x512x2048_S512x2048
abbrev rowsM (o : Fin 2 → ℕ) (h : ∀ a, o a + S512x2048.size a ≤ S4096x2048.size a) :
    Memref sig .tc .hbm S512x2048 .f32 :=
  outM.slice (Rect.unit (s := S4096x2048) o S512x2048.size h) (fun _ => rfl)

/-! ## Semaphores -/

/-- The barrier semaphore of the launch, -/
abbrev barS : Sem sig := (SemArray.scalar (sig.barrier 0 rfl) : Sems sig S_).sem
/-- the send semaphores, the receive semaphores (in the order right 1, left 1, right 2, left 2), the store semaphores. -/
abbrev sendS (k : ℕ) (h : ∀ a, (![k] : Fin 1 → ℕ) a + S1.size a ≤ S4.size a) : DmaSem sig :=
  ((cc0_scratch3.slice (Rect.unit (s := S4) ![k] S1.size h)).squeeze S_ squeezes_S1_S_).sem
abbrev recvS (k : ℕ) (h : ∀ a, (![k] : Fin 1 → ℕ) a + S1.size a ≤ S4.size a) : DmaSem sig :=
  ((cc0_scratch4.slice (Rect.unit (s := S4) ![k] S1.size h)).squeeze S_ squeezes_S1_S_).sem
abbrev storeS (k : ℕ) (h : ∀ a, (![k] : Fin 1 → ℕ) a + S1.size a ≤ S2.size a) : DmaSem sig :=
  ((cc0_scratch5.slice (Rect.unit (s := S2) ![k] S1.size h)).squeeze S_ squeezes_S1_S_).sem

end Cert.GatherMatmul

end
-- ==== Proof.Contents.lean ====
/-
# What the buffers hold

Over any float values: the eight gather slots after the gather, the tile of the result that one slot makes, and the
whole result array, all as functions of the four devices' operands — and that each transfer, load and store of the
kernel reads or writes them as claimed.
-/
module

public import proofs.«01_k».proof.Proof.Devices
public import proofs.«01_k».proof.Proof.Gen.KernelIdeal.Skeleton
public import Idealize.ShloMosaic.Lib.ValueIdxCore
public import Idealize.ShloMosaic.Lib.Pipeline.Value
public import Idealize.ShloMosaic.Lib.Exec.Geometry

@[expose] public section

noncomputable section

namespace Cert.GatherMatmul

open Cert.KernelIdeal Cert.KernelIdeal.Gen
open Idealize.ShloMosaic Idealize.ShloMosaic.TcCoe
open Idealize.ShloMosaic.ValueIdx (ix2 ix3)

variable {F : FTy → Type} [FloatOps F]

/-! ## Regions -/

/-- The elements of gather slot `s`, of staging tile `p`, of the result's band `g` of 512 rows. -/
def slotSet (s : ℕ) : Finset S8x512x4096.Idx := Finset.univ.filter fun i => (i 0).val = s
def halfSet (p : ℕ) : Finset S2x512x2048.Idx := Finset.univ.filter fun i => (i 0).val = p
def bandSet (g : ℕ) : Finset S4096x2048.Idx := Finset.univ.filter fun i => (i 0).val / 512 = g

omit [FloatOps F] in
theorem mem_slotSet {s : ℕ} {i : S8x512x4096.Idx} : i ∈ slotSet s ↔ (i 0).val = s := by simp [slotSet]
omit [FloatOps F] in
theorem mem_halfSet {p : ℕ} {i : S2x512x2048.Idx} : i ∈ halfSet p ↔ (i 0).val = p := by simp [halfSet]
omit [FloatOps F] in
theorem mem_bandSet {g : ℕ} {i : S4096x2048.Idx} : i ∈ bandSet g ↔ (i 0).val / 512 = g := by simp [bandSet]

theorem slotSet_disjoint {s t : ℕ} (h : s ≠ t) : Disjoint (slotSet s) (slotSet t) :=
  Finset.disjoint_left.mpr fun _ hi hj => h ((mem_slotSet.mp hi).symm.trans (mem_slotSet.mp hj))
theorem halfSet_disjoint {p q : ℕ} (h : p ≠ q) : Disjoint (halfSet p) (halfSet q) :=
  Finset.disjoint_left.mpr fun _ hi hj => h ((mem_halfSet.mp hi).symm.trans (mem_halfSet.mp hj))
theorem bandSet_disjoint {g k : ℕ} (h : g ≠ k) : Disjoint (bandSet g) (bandSet k) :=
  Finset.disjoint_left.mpr fun _ hi hj => h ((mem_bandSet.mp hi).symm.trans (mem_bandSet.mp hj))

/-- The views of the gather buffer, of the staging tiles and of the result array cover these regions exactly. -/
theorem set_one (s : ℕ) (h) : (oneM s h).view.set = slotSet s := by
  refine (View.set_slice_whole cc0_scratch0 _).trans (Finset.ext fun i => ?_)
  rw [Rect.mem_set_unit, mem_slotSet]
  have h1 : (i 1).val < 512 := (i 1).isLt
  have h2 : (i 2).val < 4096 := (i 2).isLt
  constructor
  · intro hi
    have h0 : s ≤ (i 0).val ∧ (i 0).val < s + 1 := hi 0
    omega
  · intro hi a
    match a with
    | ⟨0, _⟩ => show s ≤ (i 0).val ∧ (i 0).val < s + 1; omega
    | ⟨1, _⟩ => show 0 ≤ (i 1).val ∧ (i 1).val < 0 + 512; omega
    | ⟨2, _⟩ => show 0 ≤ (i 2).val ∧ (i 2).val < 0 + 4096; omega

theorem set_slot (s : ℕ) (h) : (slotM s h).view.set = slotSet s :=
  (Memref.set_view_squeeze _ _).trans (set_one s h)

theorem set_pair (s : ℕ) (h) : (pairM s h).view.set = slotSet s ∪ slotSet (s + 1) := by
  refine (View.set_slice_whole cc0_scratch0 _).trans (Finset.ext fun i => ?_)
  rw [Rect.mem_set_unit, Finset.mem_union, mem_slotSet, mem_slotSet]
  have h1 : (i 1).val < 512 := (i 1).isLt
  have h2 : (i 2).val < 4096 := (i 2).isLt
  constructor
  · intro hi
    have h0 : s ≤ (i 0).val ∧ (i 0).val < s + 2 := hi 0
    omega
  · intro hi a
    match a with
    | ⟨0, _⟩ => show s ≤ (i 0).val ∧ (i 0).val < s + 2; omega
    | ⟨1, _⟩ => show 0 ≤ (i 1).val ∧ (i 1).val < 0 + 512; omega
    | ⟨2, _⟩ => show 0 ≤ (i 2).val ∧ (i 2).val < 0 + 4096; omega

theorem set_tile (p : ℕ) (h) : (tileM p h).view.set = halfSet p := by
  refine (Memref.set_view_squeeze _ _).trans ((View.set_slice_whole cc0_scratch2 _).trans (Finset.ext fun i => ?_))
  rw [Rect.mem_set_unit, mem_halfSet]
  have h1 : (i 1).val < 512 := (i 1).isLt
  have h2 : (i 2).val < 2048 := (i 2).isLt
  constructor
  · intro hi
    have h0 : p ≤ (i 0).val ∧ (i 0).val < p + 1 := hi 0
    omega
  · intro hi a
    match a with
    | ⟨0, _⟩ => show p ≤ (i 0).val ∧ (i 0).val < p + 1; omega
    | ⟨1, _⟩ => show 0 ≤ (i 1).val ∧ (i 1).val < 0 + 512; omega
    | ⟨2, _⟩ => show 0 ≤ (i 2).val ∧ (i 2).val < 0 + 2048; omega

theorem set_rows (g : ℕ) (o : Fin 2 → ℕ) (ho : o = ![512 * g, 0]) (h) : (rowsM o h).view.set = bandSet g := by
  subst ho
  refine (View.set_slice_whole main_v1 _).trans (Finset.ext fun i => ?_)
  rw [Rect.mem_set_unit, mem_bandSet]
  have h1 : (i 1).val < 2048 := (i 1).isLt
  constructor
  · intro hi
    have h0 : 512 * g ≤ (i 0).val ∧ (i 0).val < 512 * g + 512 := hi 0
    omega
  · intro hi a
    match a with
    | ⟨0, _⟩ => show 512 * g ≤ (i 0).val ∧ (i 0).val < 512 * g + 512; omega
    | ⟨1, _⟩ => show 0 ≤ (i 1).val ∧ (i 1).val < 0 + 2048; omega

/-! ## Contents -/

/-- Half `h % 2` of a device's 1024 rows of `x`: 512 rows, with a unit axis in front. -/
def halfRows (x : S1024x4096.Idx → Elt F .i8) (h : ℕ) : S1x512x4096.Idx → Elt F .i8 := fun i =>
  x (ix2 ⟨h % 2 * 512 + (i 1).val, by have : (i 1).val < 512 := (i 1).isLt; omega⟩ ⟨(i 2).val, (i 2).isLt⟩)

/-- The gather buffer of device `c` once every transfer into it has landed. -/
def gathered (X : Dev nD → S1024x4096.Idx → Elt F .i8) (c : Dev nD) : S8x512x4096.Idx → Elt F .i8 := fun i =>
  X (srcDev c ((i 0).val / 2)) (ix2 ⟨(i 0).val % 2 * 512 + (i 1).val, by have : (i 1).val < 512 := (i 1).isLt; omega⟩
    ⟨(i 2).val, (i 2).isLt⟩)

/-- The tile that device `c` computes from half `h % 2` of the rows of device `d`: their product with `c`'s columns,
    times the product of the two scales. -/
def tileOf (X : Dev nD → S1024x4096.Idx → Elt F .i8) (W : Dev nD → S4096x2048.Idx → Elt F .i8) (SX SW : Dev nD → S1.Idx → Elt F .f32)
    (c d : Dev nD) (h : ℕ) : FVec F S512x2048 .f32 :=
  k0_pay4 (k0_pay1 (SX c) (SW c)) (halfRows (X d) h) (k0_pay3 (W c))

/-- The whole result array of device `c`: tile after tile. -/
def resultOf (X : Dev nD → S1024x4096.Idx → Elt F .i8) (W : Dev nD → S4096x2048.Idx → Elt F .i8) (SX SW : Dev nD → S1.Idx → Elt F .f32)
    (c : Dev nD) : S4096x2048.Idx → Elt F .f32 := fun i =>
  tileOf X W SX SW c ⟨(i 0).val / 1024, by have : (i 0).val < 4096 := (i 0).isLt; show _ < 4; omega⟩ ((i 0).val / 512)
    (ix2 ⟨(i 0).val % 512, Nat.mod_lt _ (by decide)⟩ ⟨(i 1).val, (i 1).isLt⟩)

variable (X : Dev nD → S1024x4096.Idx → Elt F .i8) (W : Dev nD → S4096x2048.Idx → Elt F .i8) (SX SW : Dev nD → S1.Idx → Elt F .f32)

/-! ## What the views read -/

omit [FloatOps F] in
/-- Slot `s` of the gathered buffer is half `s % 2` of the rows of the device whose rows pair `s / 2` holds. -/
theorem read_one (c : Dev nD) (s : ℕ) (h) :
    (oneM s h).view.read (Elt F) (gathered X c) = halfRows (X (srcDev c (s / 2))) s := by
  funext i
  have h0 : (i 0).val < 1 := (i 0).isLt
  show gathered X c ((Rect.unit (s := S8x512x4096) ![s, 0, 0] S1x512x4096.size h).emb i) = _
  have e0 : (((Rect.unit (s := S8x512x4096) ![s, 0, 0] S1x512x4096.size h).emb i) 0).val = s := by
    show s + 1 * (i 0).val = s; omega
  have e1 : (((Rect.unit (s := S8x512x4096) ![s, 0, 0] S1x512x4096.size h).emb i) 1).val = (i 1).val := by
    show 0 + 1 * (i 1).val = _; omega
  have e2 : (((Rect.unit (s := S8x512x4096) ![s, 0, 0] S1x512x4096.size h).emb i) 2).val = (i 2).val := by
    show 0 + 1 * (i 2).val = _; omega
  simp only [gathered, halfRows, e0, e1, e2]

omit [FloatOps F] in
theorem load_slot (c : Dev nD) (s : ℕ) (h) :
    (commM : Memref sig .tc .vmem S8x512x4096 .i8).view.readAt (Elt F)
        (Rect.unit (s := S8x512x4096) ![s, 0, 0] S1x512x4096.size h).toLoadRect (gathered X c)
      = halfRows (X (srcDev c (s / 2))) s := read_one X c s h

omit [FloatOps F] in
theorem read_slot (c : Dev nD) (s : ℕ) (h) :
    (slotM s h).view.read (Elt F) (gathered X c)
      = shapeCast S512x4096 (halfRows (X (srcDev c (s / 2))) s) shapeCasts_S1x512x4096_S512x4096 := by
  rw [← read_one X c s h]; rfl

/-- A pair of slots, as one block of two halves: half `a` row `b` is row `512 a + b` of the owner's rows. -/
def bothHalves (x : S1024x4096.Idx → Elt F .i8) : S2x512x4096.Idx → Elt F .i8 := fun i =>
  x (ix2 ⟨(i 0).val * 512 + (i 1).val, by
    have : (i 0).val < 2 := (i 0).isLt
    have : (i 1).val < 512 := (i 1).isLt
    omega⟩ ⟨(i 2).val, (i 2).isLt⟩)

omit [FloatOps F] in
theorem read_pair (c : Dev nD) (s n : ℕ) (hs : s = 2 * n) (h) :
    (pairM s h).view.read (Elt F) (gathered X c) = bothHalves (X (srcDev c n)) := by
  subst hs
  funext i
  have h0 : (i 0).val < 2 := (i 0).isLt
  show gathered X c ((Rect.unit (s := S8x512x4096) ![2 * n, 0, 0] S2x512x4096.size h).emb i) = _
  have e0 : (((Rect.unit (s := S8x512x4096) ![2 * n, 0, 0] S2x512x4096.size h).emb i) 0).val = 2 * n + (i 0).val := by
    show 2 * n + 1 * (i 0).val = _; omega
  have e1 : (((Rect.unit (s := S8x512x4096) ![2 * n, 0, 0] S2x512x4096.size h).emb i) 1).val = (i 1).val := by
    show 0 + 1 * (i 1).val = _; omega
  have e2 : (((Rect.unit (s := S8x512x4096) ![2 * n, 0, 0] S2x512x4096.size h).emb i) 2).val = (i 2).val := by
    show 0 + 1 * (i 2).val = _; omega
  have d : (2 * n + (i 0).val) / 2 = n := by omega
  have r : (2 * n + (i 0).val) % 2 = (i 0).val := by omega
  simp only [gathered, bothHalves, e0, e1, e2, d, r]

omit [FloatOps F] in
/-- The kernel's first store, the reshaped rows of `x`, is a pair of slots. -/
theorem pay2_eq (x : S1024x4096.Idx → Elt F .i8) : (k0_pay2 (F := F) x : S2x512x4096.Idx → Elt F .i8) = bothHalves x := by
  funext i
  unfold k0_pay2
  simp only [shapeCast_self]
  refine shapeCast_apply (s := S1024x4096) (t := S2x512x4096) _ _ i _ ?_
  rw [Shape.rowMajor_val_three, Shape.rowMajor_val_two]
  show ((i 0).val * 512 + (i 1).val) * 4096 + (i 2).val = ((i 0).val * 512 + (i 1).val) * 4096 + (i 2).val
  rfl

/-- The staged tile, read through the view the transfers read it through. -/
theorem read_staged (t : FVec F S512x2048 .f32) (p : ℕ) (h) (f : S2x512x2048.Idx → Elt F .f32) :
    (tileM p h).view.read (Elt F) ((stageM.access (Rect.unit (s := S2x512x2048) ![p, 0, 0] S1x512x2048.size h)).write (Elt F) f
      (k0_pay5 t) Finset.univ) = t := by
  have e : (stageM.access (Rect.unit (s := S2x512x2048) ![p, 0, 0] S1x512x2048.size h)).read (Elt F)
      ((stageM.access (Rect.unit (s := S2x512x2048) ![p, 0, 0] S1x512x2048.size h)).write (Elt F) f (k0_pay5 t) Finset.univ)
      = k0_pay5 t := View.read_write_univ _ _
  show shapeCast S512x2048 ((stageM.access (Rect.unit (s := S2x512x2048) ![p, 0, 0] S1x512x2048.size h)).read (Elt F) _)
    shapeCasts_S1x512x2048_S512x2048 = t
  rw [e]
  exact shapeCast_shapeCast t _ _

/-- Band `2 d + h` of the result is the tile of half `h` of device `d`'s rows. -/
theorem read_rows (c d : Dev nD) (k : ℕ) (hk : k < 2) (o : Fin 2 → ℕ) (ho : o = ![512 * (2 * d.val + k), 0]) (h) :
    (rowsM o h).view.read (Elt F) (resultOf X W SX SW c) = tileOf X W SX SW c d k := by
  subst ho
  funext i
  have h0 : (i 0).val < 512 := (i 0).isLt
  have hd : d.val < 4 := d.isLt
  show resultOf X W SX SW c ((Rect.unit (s := S4096x2048) ![512 * (2 * d.val + k), 0] S512x2048.size h).emb i) = _
  have e0 : (((Rect.unit (s := S4096x2048) ![512 * (2 * d.val + k), 0] S512x2048.size h).emb i) 0).val = 512 * (2 * d.val + k) + (i 0).val := by
    show 512 * (2 * d.val + k) + 1 * (i 0).val = _; omega
  have e1 : (((Rect.unit (s := S4096x2048) ![512 * (2 * d.val + k), 0] S512x2048.size h).emb i) 1).val = (i 1).val := by
    show 0 + 1 * (i 1).val = _; omega
  have q1 : (512 * (2 * d.val + k) + (i 0).val) / 1024 = d.val := by omega
  have q2 : (512 * (2 * d.val + k) + (i 0).val) / 512 = 2 * d.val + k := by omega
  have q3 : (512 * (2 * d.val + k) + (i 0).val) % 512 = (i 0).val := by omega
  have q4 : halfRows (X d) (2 * d.val + k) = halfRows (X d) k := by
    have : (2 * d.val + k) % 2 = k % 2 := by omega
    funext j; simp only [halfRows, this]
  simp only [resultOf, e0, e1, q1, q2, q3]
  unfold tileOf
  rw [show (⟨d.val, hd⟩ : Dev nD) = d from rfl, q4]
  exact congrArg _ (ValueIdx.eq_ix2 i).symm

/-- Writing through a view what it reads of `g` makes the buffer agree with `g` on the view. -/
theorem write_agrees {κ : Kind} {sp : Space} {s : Shape} {e : EltTy} {Val : EltTy → Type} (v : View sig κ sp s e)
    (f g : v.ty.Contents Val) (w : s.Idx → Val e) (h : v.read Val g = w) :
    ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end Cert.GatherMatmul

end
-- ==== Proof.Protocol.lean ====
/-
# Who hands what to whom

The kernel's four devices meet on the barrier semaphore and then send each other rows of `x` by four remote copies
each. This module states the agreement: for each semaphore, what a unit of it is worth. The barrier hands a device the
gather slots it is going to write on its neighbours; a receive semaphore hands it the slots a neighbour has filled; a send
semaphore hands it back the share of the slots it sent from. It then orders the semaphores by levels and lists what each
device starts from.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, the protocol's, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds are the left half of the right component; -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance
/-- the counters the right half. -/
abbrev EC : UEmb Counters (MT nD τ sig Unit (Elt F) ℕ UU ℕ) := countersEmb (U := UU)

/-! ## Cells -/

abbrev barCell (c : Dev nD) : GSem nD τ sig := ((c : Thread nD τ), .reg barS)
/-- Device `c`'s transfer semaphore `q`: 4 to 7 the sends, 8 to 11 the receives, each in the order right 1, left 1,
    right 2, left 2; 12 and 13 the stores of the result. -/
abbrev dmaCell (c : Dev nD) (q : DmaSem sig) : GSem nD τ sig := ((c : Thread nD τ), .dma q)

/-- The units one transfer of a pair of slots is worth, one of a single slot, one of a tile of the result. -/
abbrev N2 : ℕ := (pairM 0 inb_S8x512x4096_S2x512x4096_0_0_0).view.dmaCredit
abbrev N1 : ℕ := (slotM 0 inb_S8x512x4096_S1x512x4096_0_0_0).view.dmaCredit
abbrev NR : ℕ := (rowsM ![0, 0] (by decide)).view.dmaCredit
theorem N2_pos : 0 < N2 := View.dmaCredit_pos _ (by decide)
theorem N1_pos : 0 < N1 := View.dmaCredit_pos _ (by decide)
theorem NR_pos : 0 < NR := View.dmaCredit_pos _ (by decide)

def credit (q : ℕ) : ℕ := if q = 4 ∨ q = 5 ∨ q = 8 ∨ q = 9 then N2 else N1
theorem credit_pos (q : ℕ) : 0 < credit q := by unfold credit; split; exacts [N2_pos, N1_pos]

/-! ## What the cells hand over -/

/-- Two neighbouring slots. -/
abbrev pairSet (s : ℕ) : Finset S8x512x4096.Idx := slotSet s ∪ slotSet (s + 1)

/-- The slots a transfer semaphore speaks about, -/
def region : ℕ → Finset S8x512x4096.Idx
  | 4 => pairSet 0 | 5 => pairSet 0 | 6 => slotSet 2 | 7 => slotSet 5
  | 8 => pairSet 2 | 9 => pairSet 4 | 10 => slotSet 6 | _ => slotSet 7
/-- and the share of them: a sender lends a part and keeps the rest to read; a receiver is handed all. -/
def part : ℕ → PosShare TreeShare
  | 4 => fullShare.left | 5 => fullShare.right.left | 6 => fullShare.left | 7 => fullShare.left
  | _ => fullShare

/-- The slots `S` of device `c` at share `q`, at contents `f`; -/
def commPts (c : Dev nD) (S : Finset S8x512x4096.Idx) (q : PosShare TreeShare) (f : S8x512x4096.Idx → Elt F .i8) : sProp 𝕄 :=
  (commM : Memref sig .tc .vmem S8x512x4096 .i8).view.loc (c : Thread nD τ) ↦[S]{q} f
/-- at whatever contents. -/
def commAny (c : Dev nD) (S : Finset S8x512x4096.Idx) : sProp 𝕄 := iprop(∃ f, commPts (F := F) c S fullShare f)

omit [FloatOps F] in
instance commPts_storable (c : Dev nD) (S) (q) (f) : BI.Storable (upEmb : UEmb _ 𝕄) (commPts (F := F) c S q f) := by
  unfold commPts; infer_instance
omit [FloatOps F] in
instance commAny_storable (c : Dev nD) (S) : BI.Storable (upEmb : UEmb _ 𝕄) (commAny (F := F) c S) := by
  unfold commAny; infer_instance

/-- What a barrier unit from the right neighbour is worth: the slots on it that device `c`'s two transfers to the right
    fill; from the left neighbour: those that the transfers to the left fill. -/
def barPay (c : Dev nD) (d : Bool) : sProp 𝕄 :=
  if d then iprop(commAny (F := F) (nxt c) (pairSet 2) ∗ commAny (F := F) (nxt c) (slotSet 6))
  else iprop(commAny (F := F) (prv c) (pairSet 4) ∗ commAny (F := F) (prv c) (slotSet 7))

omit [FloatOps F] in
instance barPay_storable (c : Dev nD) (d : Bool) : BI.Storable (upEmb : UEmb _ 𝕄) (barPay (F := F) c d) := by
  unfold barPay; split <;> infer_instance

variable (X : Dev nD → S1024x4096.Idx → Elt F .i8)

/-- What transfer semaphore `q` of device `c` is worth: its slots, holding the gathered rows. -/
def ringPay (c : Dev nD) (q : ℕ) : sProp 𝕄 := commPts (F := F) c (region q) (part q) (gathered X c)

omit [FloatOps F] in
instance ringPay_storable (c : Dev nD) (q : ℕ) : BI.Storable (upEmb : UEmb _ 𝕄) (ringPay (F := F) X c q) := by
  unfold ringPay; infer_instance

/-- One round: a barrier cell has a unit from either neighbour, a transfer cell one transfer's. -/
def ringRd : Rounds.Schedule (GSem nD τ sig) Bool 𝕄 where
  duties g r := if r = 0 ∧ g.1.2 = .tc then
      (match g.2 with
        | .reg _ => Finset.univ
        | .dma q => if 4 ≤ q.val ∧ q.val < 12 then {false} else ∅)
    else ∅
  unitless _ := False
  amount g _ _ := match g.2 with
    | .reg _ => 1
    | .dma q => credit q.val
  payload g _ d := match g.2 with
    | .reg _ => barPay (F := F) g.1.1 d
    | .dma q => ringPay X g.1.1 q.val
  amount_pos g _ _ _ := by
    rcases g with ⟨t, s | q⟩
    · exact Nat.one_pos
    · exact credit_pos _

instance ringRd_storable (g : GSem nD τ sig) (r : ℕ) (d : Bool) : BI.Storable (upEmb : UEmb _ 𝕄) ((ringRd (F := F) X).payload g r d) := by
  rcases g with ⟨t, s | q⟩
  · show BI.Storable _ (barPay (F := F) t.1 d); infer_instance
  · show BI.Storable _ (ringPay X t.1 q.val); infer_instance

section Sched
variable (c : Dev nD)

omit [FloatOps F] in
theorem duties_bar : (ringRd (F := F) X).duties (barCell c) 0 = Finset.univ := by
  dsimp only [ringRd]; exact if_pos ⟨rfl, rfl⟩
omit [FloatOps F] in
theorem duties_dma (q : DmaSem sig) (hq : 4 ≤ q.val ∧ q.val < 12) : (ringRd (F := F) X).duties (dmaCell c q) 0 = {false} := by
  dsimp only [ringRd]; rw [if_pos ⟨rfl, rfl⟩]; exact if_pos hq
omit [FloatOps F] in
theorem duties_later (g : GSem nD τ sig) : ∀ r, 1 ≤ r → (ringRd (F := F) X).duties g r = ∅ :=
  fun r hr => if_neg fun h => by omega

omit [FloatOps F] in
theorem expect_bar : (ringRd (F := F) X).expect (barCell c) 0 = 2 := by
  unfold Schedule.expect Schedule.amountOf
  rw [duties_bar]
  show (∑ _d : Bool, 1) = 2
  rfl
omit [FloatOps F] in
theorem expect_dma (q : DmaSem sig) (hq : 4 ≤ q.val ∧ q.val < 12) : (ringRd (F := F) X).expect (dmaCell c q) 0 = credit q.val := by
  unfold Schedule.expect Schedule.amountOf
  rw [duties_dma X c q hq, Finset.sum_singleton]
  rfl

omit [FloatOps F] in
/-- A whole round of the barrier: both neighbours' slots. -/
theorem rest_bar : bigSep ((ringRd (F := F) X).duties (barCell c) 0 \ ∅) (fun d => (ringRd (F := F) X).payload (barCell c) 0 d)
    = iprop(barPay (F := F) c false ∗ barPay (F := F) c true) := by
  rw [Finset.sdiff_empty, duties_bar, bigSep_univ_eq_bigSepL [false, true] (by decide) (by decide), bigSepL_cons_cons, bigSepL_singleton]
  rfl
omit [FloatOps F] in
/-- A whole round of a transfer cell: its slots. -/
theorem rest_dma (q : DmaSem sig) (hq : 4 ≤ q.val ∧ q.val < 12) :
    bigSep ((ringRd (F := F) X).duties (dmaCell c q) 0 \ ∅) (fun d => (ringRd (F := F) X).payload (dmaCell c q) 0 d) = ringPay X c q.val := by
  rw [Finset.sdiff_empty, duties_dma X c q hq, bigSep_singleton]
  rfl

end Sched

/-! ## Levels: a device waits on a cell only while everything it still owes lies higher -/

/-- The barrier at 1, the first receives at 2, the second at 3, everything else at 0. -/
def lv (g : GSem nD τ sig) (_ : Unit) : ℕ := match g.2 with
  | .reg _ => 1
  | .dma q => if q.val = 8 ∨ q.val = 9 then 2 else if q.val = 10 ∨ q.val = 11 then 3 else 0
def L (g : GSem nD τ sig) : Finset Unit := if g.1.2 = .tc then {()} else ∅

theorem L_of_ne (g : GSem nD τ sig) (h : g.1.2 ≠ .tc) : L g = ∅ := if_neg h
theorem L_tc {g : GSem nD τ sig} (h : g.1.2 = .tc) (u : Unit) : u ∈ L g := by unfold L; rw [if_pos h]; exact Finset.mem_singleton_self _

/-- Everything owed in `O` lies above level `n`. -/
def Above (n : ℕ) (O : CellTallies nD τ sig Unit) : Prop := ∀ (g : GSem nD τ sig) (u : Unit), 0 < O g u → g.1.2 = .tc ∧ n < lv g u

theorem above_zero (n : ℕ) : Above n 0 := fun _ _ h => absurd h (Nat.lt_irrefl 0)
theorem above_tally (n : ℕ) (c : Dev nD) (sm : SemLoc sig) (k : ℕ) (h : n < lv ((c : Thread nD τ), sm) ()) :
    Above n (tallyAt ((c : Thread nD τ), sm) () k) := by
  intro g u hg
  rw [tallyAt_apply] at hg
  by_cases he : g = ((c : Thread nD τ), sm) ∧ u = ()
  · obtain ⟨rfl, rfl⟩ := he; exact ⟨rfl, h⟩
  · rw [if_neg he] at hg; exact absurd hg (Nat.lt_irrefl 0)
theorem above_add {n : ℕ} {O D : CellTallies nD τ sig Unit} (hO : Above n O) (hD : Above n D) : Above n (O + D) := by
  intro g u hg
  rw [Pi.add_apply, Finsupp.add_apply] at hg
  rcases Nat.eq_zero_or_pos (O g u) with h0 | h0
  · exact hD g u (by omega)
  · exact hO g u h0

omit [FloatOps F] in
theorem may_wait (n : ℕ) (c : Dev nD) (sm : SemLoc sig) (h : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp]; exact L_tc rfl _) (fun g u hg => L_tc (hO g u hg).1 u)
    (fun p hp => by rw [Finset.mem_singleton.mp hp]; exact h) (fun g u hg => (hO g u hg).2)

/-! ## What each device owes at launch, in the reverse of the order it pays in -/

def D5 (c : Dev nD) : CellTallies nD τ sig Unit := tallyAt (dmaCell (prv c) 11) () N1
def D4 (c : Dev nD) : CellTallies nD τ sig Unit := D5 c + tallyAt (dmaCell (nxt c) 10) () N1
def D3 (c : Dev nD) : CellTallies nD τ sig Unit := D4 c + tallyAt (dmaCell (prv c) 9) () N2
def D2 (c : Dev nD) : CellTallies nD τ sig Unit := D3 c + tallyAt (dmaCell (nxt c) 8) () N2
def D1 (c : Dev nD) : CellTallies nD τ sig Unit := D2 c + tallyAt (barCell (nxt c)) () 1
def D0 (c : Dev nD) : CellTallies nD τ sig Unit := D1 c + tallyAt (barCell (prv c)) () 1

theorem above_D5 (c : Dev nD) (n : ℕ) (h : n < 3) : Above n (D5 c) := above_tally _ _ _ _ h
theorem above_D4 (c : Dev nD) (n : ℕ) (h : n < 3) : Above n (D4 c) := above_add (above_D5 c n h) (above_tally _ _ _ _ h)
theorem above_D2 (c : Dev nD) (n : ℕ) (h : n < 2) : Above n (D2 c) :=
  above_add (above_add (above_D4 c n (by omega)) (above_tally _ _ _ _ h)) (above_tally _ _ _ _ h)
theorem above_D0 (c : Dev nD) : Above 0 (D0 c) :=
  above_add (above_add (above_D2 c 0 (by decide)) (above_tally _ _ _ _ Nat.one_pos)) (above_tally _ _ _ _ Nat.one_pos)

/-! ## What each device starts from -/

/-- The protocol's nine cells of a device: the barrier, then the transfer semaphores 4 to 11. -/
def csem : Fin 9 → SemLoc sig
  | ⟨0, _⟩ => .reg barS
  | ⟨k + 1, h⟩ => .dma (⟨k + 4, by show k + 4 < 14; omega⟩ : Fin 14)
abbrev kcell (ck : Dev nD × Fin 9) : GSem nD τ sig := ((ck.1 : Thread nD τ), csem ck.2)

/-- The cells' invariants, under the names `K`, and that every cell is at round 0: known to every device. -/
def records (K : Dev nD × Fin 9 → ℕ) : sProp 𝕄 :=
  iprop((bigSep Finset.univ fun ck : Dev nD × Fin 9 => cellInv ER (ringRd X) (K ck) (kcell ck))
    ∗ bigSep Finset.univ fun ck : Dev nD × Fin 9 => reached ER (kcell ck) 0)

instance records_persistent (K : Dev nD × Fin 9 → ℕ) : BI.Persistent (records X K) := by unfold records; infer_instance

omit [FloatOps F] in
theorem inv_of_records (K : Dev nD × Fin 9 → ℕ) (ck : Dev nD × Fin 9) : records X K ⊢ cellInv ER (ringRd X) (K ck) (kcell ck) := by
  unfold records
  iintro ⟨H, -⟩
  iapply (show (bigSep Finset.univ fun ck : Dev nD × Fin 9 => (cellInv ER (ringRd X) (K ck) (kcell ck) : sProp 𝕄)) ⊢ cellInv ER (ringRd X) (K ck) (kcell ck) from
    bigSep_elim (Finset.mem_univ ck)) $$ H
omit [FloatOps F] in
theorem reached_of_records (K : Dev nD × Fin 9 → ℕ) (ck : Dev nD × Fin 9) : records X K ⊢ reached ER (kcell ck) 0 := by
  unfold records
  iintro ⟨-, H⟩
  iapply (show (bigSep Finset.univ fun ck : Dev nD × Fin 9 => (reached ER (kcell ck) 0 : sProp 𝕄)) ⊢ reached ER (kcell ck) 0 from
    bigSep_elim (Finset.mem_univ ck)) $$ H

/-- The nine positions of device `c`, each at the start of round 0. -/
def positions (c : Dev nD) : sProp 𝕄 := bigSep Finset.univ fun k : Fin 9 => atPos ER (kcell (c, k)) 0 ∅ 0

/-- The tokens of the payments device `c` makes: to both neighbours' barriers, by its own four sends, into the
    neighbours' four receives. -/
def payToks (c : Dev nD) : sProp 𝕄 :=
  iprop(dutyTok ER (barCell (nxt c)) 0 false ∗ dutyTok ER (barCell (prv c)) 0 true
    ∗ dutyTok ER (dmaCell c 4) 0 false ∗ dutyTok ER (dmaCell c 5) 0 false
    ∗ dutyTok ER (dmaCell c 6) 0 false ∗ dutyTok ER (dmaCell c 7) 0 false
    ∗ dutyTok ER (dmaCell (nxt c) 8) 0 false ∗ dutyTok ER (dmaCell (prv c) 9) 0 false
    ∗ dutyTok ER (dmaCell (nxt c) 10) 0 false ∗ dutyTok ER (dmaCell (prv c) 11) 0 false)

/-- The store semaphores at zero. -/
def storeSems (c : Dev nD) : sProp 𝕄 := iprop(semVal (dmaCell c 12) 0 ∗ semVal (dmaCell c 13) 0)

/-- What the launch makes for device `c`. -/
def ghost (c : Dev nD) : sProp 𝕄 := iprop(∃ K, records X K ∗ positions (F := F) c ∗ payToks (F := F) c ∗ storeSems (F := F) c)

/-- The credit for its own waits that the others' payments back. -/
def credits (c : Dev nD) : sProp 𝕄 :=
  iprop(cred (tallyAt (barCell c) () 2) ∗ cred (tallyAt (dmaCell c 8) () N2) ∗ cred (tallyAt (dmaCell c 9) () N2)
    ∗ cred (tallyAt (dmaCell c 10) () N1) ∗ cred (tallyAt (dmaCell c 11) () N1))

end Cert.GatherMatmul

end
-- ==== Proof.Steps.lean ====
/-
# The kernel's steps, one lemma per kind

A remote copy of a pair of slots, one of a single slot, a wait on a transfer semaphore, the making of one tile of the
result and its copy out, the wait for such a copy. Each is stated for any device, slot and semaphore; the kernel's body
is a sequence of them.
-/
module

public import proofs.«01_k».proof.Proof.Protocol

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → S1024x4096.Idx → Elt F .i8) (W : Dev nD → S4096x2048.Idx → Elt F .i8) (SX SW : Dev nD → S1.Idx → Elt F .f32)

/-! ## Buffers other than the gather slots -/

/-- What device `c` still owes, whatever it has waited on so far. -/
def owesSome (c : Dev nD) (O : CellTallies nD τ sig Unit) : sProp 𝕄 := iprop(∃ P, owes (c : Thread nD τ) O P)
/-- The weights as bf16. -/
def wbfPts (c : Dev nD) : sProp 𝕄 :=
  (wbfM : Memref sig .tc .vmem S4096x2048 .bf16).view.loc (c : Thread nD τ) ↦{fullShare} (k0_pay3 (W c) : S4096x2048.Idx → Elt F .bf16)
/-- Staging tile `p` at whatever contents; -/
def tileAny (c : Dev nD) (p : ℕ) : sProp 𝕄 :=
  iprop(∃ f : S2x512x2048.Idx → Elt F .f32, (stageM : Memref sig .tc .vmem S2x512x2048 .f32).view.loc (c : Thread nD τ) ↦[halfSet p]{fullShare} f)
/-- band `g` of the result at whatever contents, -/
def bandAny (c : Dev nD) (g : ℕ) : sProp 𝕄 :=
  iprop(∃ f : S4096x2048.Idx → Elt F .f32, (outM : Memref sig .tc .hbm S4096x2048 .f32).view.loc (c : Thread nD τ) ↦[bandSet g]{fullShare} f)
/-- and finished. -/
def bandDone (c : Dev nD) (g : ℕ) : sProp 𝕄 :=
  (outM : Memref sig .tc .hbm S4096x2048 .f32).view.loc (c : Thread nD τ) ↦[bandSet g]{fullShare} (resultOf X W SX SW c)

/-! ## The remote copies -/

section Send
variable {X}
variable (K : Dev nD × Fin 9 → ℕ) (c d n : Dev nD) (O : CellTallies nD τ sig Unit)

/-- A copy of device `c`'s own rows, slots 0 and 1, into the pair of slots `s` of device `d`, whose pair it is. -/
theorem send_pair (hn : n = d) (i j : Fin 9) (qs qr : DmaSem sig) (hi : csem i = .dma qs) (hj : csem j = .dma qr)
    (hs : 4 ≤ qs.val ∧ qs.val < 12) (hr : 4 ≤ qr.val ∧ qr.val < 12) (cs : credit qs.val = N2) (cr : credit qr.val = N2)
    (s b : ℕ) (hb : s = 2 * b) (rs : region qs.val = pairSet 0) (rr : region qr.val = pairSet s) (pr : part qr.val = fullShare)
    (hd : srcDev d b = c) (h0 hs')
    {hsc : (pairM s hs' : Memref sig (Dev.tc n : Thread nD τ).2.kind .vmem S2x512x4096 .i8).view.ref.isScScratch = false}
    {hsrc : (pairM 0 h0).view.WordExact} {hdst : (pairM s hs').view.WordExact}
    {hsem : DmaTarget.Typed .vmem (.dma qr) (.remote (Dev.tc n : Thread nD τ) (pairM s hs') (.dma qs) hsc)}
    {α : Type} {Q : α → sProp 𝕄} {k : PUnit → Prog (TpuEff nD τ sig (Elt F) Λ₀ .tc) α} :
    iprop(records X K ∗ ringPay X c qs.val ∗ commAny (F := F) d (pairSet s) ∗ owesSome (F := F) c (O + tallyAt (dmaCell d qr) () N2)
        ∗ dutyTok ER (dmaCell c qs) 0 false ∗ dutyTok ER (dmaCell d qr) 0 false)
      ⊢ iprop(((cred (tallyAt (dmaCell c qs) () N2) ∗ owesSome (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pairM 0 h0) (.remote (Dev.tc n : Thread nD τ) (pairM s hs') (.dma qs) hsc) (.dma qr) hsrc hdst hsem) k) Q) := by
  have hp : ∀ s h, (pairM s h).view.set = pairSet s := fun s h => set_pair s h
  subst hn
  unfold ringPay commAny commPts owesSome
  iintro ⟨#HR, Hs, ⟨%fd, Hd⟩, ⟨%P, HO⟩, Hts, Htr⟩ Hk
  iapply (Rounds.wp_send_pointsTo 𝒱₀ ER (ringRd X) (c : Thread nD τ) none (κ₁ := K (c, i)) (κ₂ := K (n, j))
    (c' := (Dev.tc n : Thread nD τ)) (sS := .dma qs) (sem := .dma qr) (src := pairM 0 h0) (dst := pairM s hs') (r₁ := 0) (r₂ := 0) (d₁ := false) (d₂ := false) (q := part qs.val) (fs := gathered X c) (fd := fd)
    (by rw [duties_dma X c qs hs]; exact Finset.mem_singleton_self _) (by rw [duties_dma X n qr hr]; exact Finset.mem_singleton_self _)
    () () N2 rfl cs cr O rfl (W := P)
    (by
      show _ ⊢ ringPay X c qs.val
      unfold ringPay commPts
      rw [hp, rs])
    (by
      show _ ⊢ ringPay X n qr.val
      unfold ringPay commPts
      rw [pr, rr]
      refine Entails.of_eq ?_
      rw [← hp s hs']
      refine pointsTo_congr (write_agrees (pairM s hs').view fd (gathered X n) _ ?_)
      rw [read_pair X n s b hb, read_pair X c 0 0 rfl, hd]; rfl)) $$ [Hs Hd HO Hts Htr]
  · isplitr; · rw [← hi]; iapply (inv_of_records X K (c, i)); iexact HR
    isplitr; · rw [← hj]; iapply (inv_of_records X K (n, j)); iexact HR
    isplitl [Hs]; · rw [hp, ← rs]; iexact Hs
    isplitl [Hd]; · rw [hp]; iexact Hd
    isplitl [HO]; · iexact HO
    isplitl [Hts]; · iexact Hts
    isplitr; · rw [← hi]; iapply (reached_of_records X K (c, i)); iexact HR
    isplitl [Htr]; · iexact Htr
    rw [← hj]; iapply (reached_of_records X K (n, j)); iexact HR
  iintro ⟨Hc, HO⟩
  iapply Hk
  isplitl [Hc]; · iexact Hc
  iexists P; iexact HO

/-- A copy of the gathered slot `t` of device `c` into slot `s` of device `d`, when both are the same half of the same
    device's rows. -/
theorem send_slot (hn : n = d) (i j : Fin 9) (qs qr : DmaSem sig) (hi : csem i = .dma qs) (hj : csem j = .dma qr)
    (hs : 4 ≤ qs.val ∧ qs.val < 12) (hr : 4 ≤ qr.val ∧ qr.val < 12) (cs : credit qs.val = N1) (cr : credit qr.val = N1)
    (t s : ℕ) (rs : region qs.val = slotSet t) (rr : region qr.val = slotSet s) (pr : part qr.val = fullShare)
    (hd : halfRows (X (srcDev d (s / 2))) s = halfRows (X (srcDev c (t / 2))) t) (ht hs')
    {hsc : (slotM s hs' : Memref sig (Dev.tc n : Thread nD τ).2.kind .vmem S512x4096 .i8).view.ref.isScScratch = false}
    {hsrc : (slotM t ht).view.WordExact} {hdst : (slotM s hs').view.WordExact}
    {hsem : DmaTarget.Typed .vmem (.dma qr) (.remote (Dev.tc n : Thread nD τ) (slotM s hs') (.dma qs) hsc)}
    {α : Type} {Q : α → sProp 𝕄} {k : PUnit → Prog (TpuEff nD τ sig (Elt F) Λ₀ .tc) α} :
    iprop(records X K ∗ ringPay X c qs.val ∗ commAny (F := F) d (slotSet s) ∗ owesSome (F := F) c (O + tallyAt (dmaCell d qr) () N1)
        ∗ dutyTok ER (dmaCell c qs) 0 false ∗ dutyTok ER (dmaCell d qr) 0 false)
      ⊢ iprop(((cred (tallyAt (dmaCell c qs) () N1) ∗ owesSome (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM t ht) (.remote (Dev.tc n : Thread nD τ) (slotM s hs') (.dma qs) hsc) (.dma qr) hsrc hdst hsem) k) Q) := by
  subst hn
  unfold ringPay commAny commPts owesSome
  iintro ⟨#HR, Hs, ⟨%fd, Hd⟩, ⟨%P, HO⟩, Hts, Htr⟩ Hk
  iapply (Rounds.wp_send_pointsTo 𝒱₀ ER (ringRd X) (c : Thread nD τ) none (κ₁ := K (c, i)) (κ₂ := K (n, j))
    (c' := (Dev.tc n : Thread nD τ)) (sS := .dma qs) (sem := .dma qr) (src := slotM t ht) (dst := slotM s hs') (r₁ := 0) (r₂ := 0) (d₁ := false) (d₂ := false) (q := part qs.val) (fs := gathered X c) (fd := fd)
    (by rw [duties_dma X c qs hs]; exact Finset.mem_singleton_self _) (by rw [duties_dma X n qr hr]; exact Finset.mem_singleton_self _)
    () () N1 rfl cs cr O rfl (W := P)
    (by
      show _ ⊢ ringPay X c qs.val
      unfold ringPay commPts
      rw [set_slot, rs])
    (by
      show _ ⊢ ringPay X n qr.val
      unfold ringPay commPts
      rw [pr, rr]
      refine Entails.of_eq ?_
      rw [← set_slot s hs']
      refine pointsTo_congr (write_agrees (slotM s hs').view fd (gathered X n) _ ?_)
      rw [read_slot X n s, read_slot X c t, hd])) $$ [Hs Hd HO Hts Htr]
  · isplitr; · rw [← hi]; iapply (inv_of_records X K (c, i)); iexact HR
    isplitr; · rw [← hj]; iapply (inv_of_records X K (n, j)); iexact HR
    isplitl [Hs]; · rw [set_slot, ← rs]; iexact Hs
    isplitl [Hd]; · rw [set_slot]; iexact Hd
    isplitl [HO]; · iexact HO
    isplitl [Hts]; · iexact Hts
    isplitr; · rw [← hi]; iapply (reached_of_records X K (c, i)); iexact HR
    isplitl [Htr]; · iexact Htr
    rw [← hj]; iapply (reached_of_records X K (n, j)); iexact HR
  iintro ⟨Hc, HO⟩
  iapply Hk
  isplitl [Hc]; · iexact Hc
  iexists P; iexact HO

end Send

/-! ## A wait on a transfer semaphore -/

/-- The wait on transfer semaphore `q`: with the credit for it, and owing only above its level, a device is handed the
    semaphore's slots. -/
theorem wait_ring (K : Dev nD × Fin 9 → ℕ) (c : Dev nD) (i : Fin 9) (q : DmaSem sig) (hi : csem i = .dma q) (hq : 4 ≤ q.val ∧ q.val < 12)
    (O : CellTallies nD τ sig Unit) (hO : Above (lv (dmaCell c q) ()) O)
    {s : Shape} {e : EltTy} {src dst : Memref sig .tc .vmem s e} {hsrc : src.view.WordExact} {hdst : dst.view.WordExact} (hN : dst.view.dmaCredit = credit q.val)
    {α : Type} {Q : α → sProp 𝕄} {k : PUnit → Prog (TpuEff nD τ sig (Elt F) Λ₀ .tc) α} :
    iprop(records X K ∗ levAts L lv ∗ cred (tallyAt (dmaCell c q) () (credit q.val)) ∗ owesSome (F := F) c O ∗ atPos ER (kcell (c, i)) 0 ∅ 0)
      ⊢ iprop(((owesSome (F := F) c O ∗ atPos ER (kcell (c, i)) 1 ∅ 0 ∗ ringPay X c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owesSome kcell
  rw [show ((c, i) : Dev nD × Fin 9).2 = i from rfl, hi]
  iintro ⟨#HR, #Hlev, Hc, ⟨%P, HO⟩, Hat⟩ Hk
  iapply (Rounds.wp_wait_rest_token 𝒱₀ ER (ringRd X) (c : Thread nD τ) none (κ := K (c, i))
      (wpE_waitDma2_eq 𝒱₀ (c : Thread nD τ) none Set.univ) (Set.mem_univ _) () (O := O) (W := P) (R := 0) (m := 0) (T := ∅)
      (by rw [Nat.zero_add, hN, expect_dma X c q hq])) $$ [Hc HO Hat]
  · isplitr; · rw [← hi]; iapply (inv_of_records X K (c, i)); iexact HR
    isplitl [Hc]; · rw [hN]; iexact Hc
    isplitl [HO]; · iexact HO
    isplitr; · iapply (may_wait (F := F) (lv (dmaCell c q) ()) c (.dma q) le_rfl O hO); iexact Hlev
    iexact Hat
  iintro ⟨HO, Hat, -, Hpay⟩
  iapply Hk
  isplitl [HO]; · iexists _; iexact HO
  isplitl [Hat]; · iexact Hat
  iapply (Entails.of_eq (rest_dma X c q hq)); iexact Hpay

/-- After its round a cell closes: its counter at zero is the device's again. -/
theorem close_cell (K : Dev nD × Fin 9 → ℕ) (c : Dev nD) (i : Fin 9) :
    iprop(records X K ∗ atPos ER (kcell (c, i)) 1 ∅ 0) ⊢ |={Set.univ}=> (semVal (kcell (c, i)) 0 : sProp 𝕄) := by
  iintro ⟨#HR, Hat⟩
  iapply (Rounds.cell_close ER (ringRd X) (Set.mem_univ (K (c, i))) (fun h => h) (R := 1) (duties_later X (kcell (c, i))))
  isplitr; · iapply (inv_of_records X K (c, i)); iexact HR
  iexact Hat

/-! ## The making of a tile -/

omit [FloatOps F] in
theorem halfRows_mod (x : S1024x4096.Idx → Elt F .i8) (h : ℕ) : halfRows x (h % 2) = halfRows x h := by
  funext i
  unfold halfRows
  simp only [Nat.mod_mod]

/-- One tile of the result: slot `s` and the weights are loaded, their product is staged in tile `p`, and a copy of the
    tile to band `g` of the result starts; the copy will deliver the band finished and the tile free. -/
theorem make_tile (c : Dev nD) (s p g : ℕ) (sm : DmaSem sig) (q : PosShare TreeShare) (o : Fin 2 → ℕ)
    (hg : g = 2 * (srcDev c (s / 2)).val + s % 2) (ho : o = ![512 * g, 0]) (h1 h3 h4 h5 h6)
    {hl1 : (commM : Memref sig .tc .vmem S8x512x4096 .i8).view.LoadsAt (Rect.unit (s := S8x512x4096) ![s, 0, 0] S1x512x4096.size h1).toLoadRect}
    {hl2 : (wbfM : Memref sig .tc .vmem S4096x2048 .bf16).view.LoadsAt (Rect.unit (s := S4096x2048) ![0, 0] S4096x2048.size h6).toLoadRect}
    {hl3 : (stageM : Memref sig .tc .vmem S2x512x2048 .f32).view.LoadsAt (Rect.unit (s := S2x512x2048) ![p, 0, 0] S1x512x2048.size h3).toLoadRect}
    {hx : ((stageM : Memref sig .tc .vmem S2x512x2048 .f32).access (Rect.unit (s := S2x512x2048) ![p, 0, 0] S1x512x2048.size h4)).Stores Finset.univ}
    {hm : (Finset.univ : Finset (Rect.unit (s := S2x512x2048) ![p, 0, 0] S1x512x2048.size h4).shape.Idx) = Finset.univ
      ∨ ∀ a, (Rect.unit (s := S2x512x2048) ![p, 0, 0] S1x512x2048.size h4).stride a = 1}
    {hsrc : (tileM p h4).view.WordExact} {hdst : (rowsM o h5).view.WordExact} {hsem : DmaTarget.Typed .vmem (.dma sm) (.here (rowsM o h5) : DmaTarget nD τ sig (Dev.tc c : Thread nD τ).2 .hbm S512x2048 .f32)}
    {α : Type} {Q : α → sProp 𝕄} {k : PUnit → Prog (TpuEff nD τ sig (Elt F) Λ₀ .tc) α} :
    iprop(commPts (F := F) c (slotSet s) q (gathered X c) ∗ wbfPts W c ∗ tileAny (F := F) c p ∗ bandAny (F := F) c g ∗ semVal (dmaCell c sm) 0)
      ⊢ iprop(((commPts (F := F) c (slotSet s) q (gathered X c) ∗ wbfPts W c
              ∗ Transfers.Flight EC (c : Thread nD τ) (.dma sm) () NR iprop(bandDone X W SX SW c g ∗ tileAny (F := F) c p))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load commM (Rect.unit (s := S8x512x4096) ![s, 0, 0] S1x512x4096.size h1).toLoadRect hl1) fun v =>
                .op (.load wbfM (Rect.unit (s := S4096x2048) ![0, 0] S4096x2048.size h6).toLoadRect hl2) fun v' =>
                .op (.load stageM (Rect.unit (s := S2x512x2048) ![p, 0, 0] S1x512x2048.size h3).toLoadRect hl3) fun _ =>
                .op (.store stageM (Rect.unit (s := S2x512x2048) ![p, 0, 0] S1x512x2048.size h4)
                  (k0_pay5 (k0_pay4 (k0_pay1 (SX c) (SW c)) v v')) Finset.univ hx hm) fun _ =>
                .op (.enqueueDma (tileM p h4) (.here (rowsM o h5)) (.dma sm) hsrc hdst hsem) k) Q) := by
  have e1 : (commM : Memref sig .tc .vmem S8x512x4096 .i8).view.setOn (Rect.unit (s := S8x512x4096) ![s, 0, 0] S1x512x4096.size h1).toLoadRect.set ⊆ slotSet s := by
    refine Eq.subset ?_
    rw [← set_one s h1]; exact (View.set_slice _ _).symm
  have e4 : ((stageM : Memref sig .tc .vmem S2x512x2048 .f32).access (Rect.unit (s := S2x512x2048) ![p, 0, 0] S1x512x2048.size h4)).set ⊆ halfSet p := by
    refine Eq.subset ?_
    rw [← set_tile p h4]; exact (Memref.set_view_squeeze _ _).symm
  have e3 : (stageM : Memref sig .tc .vmem S2x512x2048 .f32).view.setOn (Rect.unit (s := S2x512x2048) ![p, 0, 0] S1x512x2048.size h3).toLoadRect.set ⊆ halfSet p := by
    rw [View.set_slice] at e4; exact e4
  have ew : (wbfM : Memref sig .tc .vmem S4096x2048 .bf16).view.readAt (Elt F) (Rect.unit (s := S4096x2048) ![0, 0] S4096x2048.size h6).toLoadRect
      (k0_pay3 (W c)) = k0_pay3 (W c) :=
    Memref.readAt_unit_zero (Elt F) cc0_scratch1 (by funext a; fin_cases a <;> rfl) h6 _
  have er (ft : S2x512x2048.Idx → Elt F .f32) : (rowsM o h5).view.read (Elt F) (resultOf X W SX SW c)
      = (tileM p h4).view.read (Elt F) ((stageM.access (Rect.unit (s := S2x512x2048) ![p, 0, 0] S1x512x2048.size h4)).write (Elt F) ft
          (k0_pay5 (k0_pay4 (k0_pay1 (SX c) (SW c)) (halfRows (X (srcDev c (s / 2))) s) (k0_pay3 (W c)))) Finset.univ) := by
    rw [read_staged, read_rows X W SX SW c (srcDev c (s / 2)) (s % 2) (Nat.mod_lt _ (by decide)) o (by rw [ho, hg])]
    unfold tileOf
    rw [halfRows_mod]
  unfold commPts wbfPts tileAny bandAny
  iintro ⟨Hs, Hw, ⟨%ft, Ht⟩, ⟨%fb, Hb⟩, Hv⟩ Hk
  iapply (wp_load 𝒱₀ (c : Thread nD τ) none Set.univ (m := commM) e1) $$ Hs; iintro Hs
  rw [load_slot]
  iapply (wp_load 𝒱₀ (c : Thread nD τ) none Set.univ (m := wbfM) (Finset.subset_univ _)) $$ Hw; iintro Hw
  rw [ew]
  iapply (wp_load 𝒱₀ (c : Thread nD τ) none Set.univ (m := stageM) e3) $$ Ht; iintro Ht
  iapply (wp_store 𝒱₀ (c : Thread nD τ) none Set.univ (m := stageM) (Mk := Finset.univ) e4) $$ Ht; iintro Ht
  iapply (Transfers.wp_dmaLocal EC 𝒱₀ (c : Thread nD τ) none (src := tileM p h4) (dst := rowsM o h5) (q := fullShare) (Sd := bandSet g) (fd := fb)
      () NR rfl NR_pos (set_rows g o ho h5).subset) $$ [Ht Hb Hv]
  · isplitl [Ht]; · rw [set_tile]; iexact Ht
    isplitl [Hb]; · iexact Hb
    iexact Hv
  iintro Hf
  iapply Hk
  isplitl [Hs]; · iexact Hs
  isplitl [Hw]; · iexact Hw
  iapply (Transfers.Flight_mono EC ?_) $$ Hf
  iintro ⟨Hb, Ht⟩
  isplitl [Hb]
  · unfold bandDone
    rw [← set_rows g o ho h5]
    iapply (Entails.of_eq (pointsTo_congr (write_agrees (rowsM o h5).view fb (resultOf X W SX SW c) _ (er _)))) $$ Hb
  iexists _
  rw [set_tile]
  iexact Ht

/-- The wait for a tile's copy: the band is finished, the tile free and the store semaphore at zero. -/
theorem wait_tile (c : Dev nD) (sm : DmaSem sig) (p g : ℕ) (o : Fin 2 → ℕ) (h4 h5)
    {hsrc : (tileM p h4).view.WordExact} {hdst : (rowsM o h5).view.WordExact}
    {α : Type} {Q : α → sProp 𝕄} {k : PUnit → Prog (TpuEff nD τ sig (Elt F) Λ₀ .tc) α} :
    iprop(Transfers.Flight EC (c : Thread nD τ) (.dma sm) () NR iprop(bandDone X W SX SW c g ∗ tileAny (F := F) c p) ∗ owesSome (F := F) c 0)
      ⊢ iprop(((bandDone X W SX SW c g ∗ tileAny (F := F) c p ∗ semVal (dmaCell c sm) 0 ∗ owesSome (F := F) c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm (tileM p h4) (rowsM o h5) hsrc hdst) k) Q) := by
  unfold owesSome
  iintro ⟨Hf, ⟨%P, HO⟩⟩ Hk
  iapply (Transfers.wp_waitLocal EC 𝒱₀ (c : Thread nD τ) none (srcw := tileM p h4) (dstw := rowsM o h5) (N := NR) () rfl) $$ [Hf HO]
  · isplitl [Hf]; · iexact Hf
    iexact HO
  iintro ⟨⟨Hb, Ht⟩, Hv, HO⟩
  iapply Hk
  isplitl [Hb]; · iexact Hb
  isplitl [Ht]; · iexact Ht
  isplitl [Hv]; · iexact Hv
  iexists _; iexact HO

end Cert.GatherMatmul

end
-- ==== Proof.Pieces.lean ====
/-
# Cutting the buffers into pieces and putting them together

The gather buffer is cut into its slots, a region of it into shares, the staging buffer into its two tiles and the result
into its eight bands; the barrier's part of the protocol, as one step each.
-/
module

public import proofs.«01_k».proof.Proof.Steps

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .i8) (W : Dev nD → S4096x2048.Idx → Elt F .i8) (SX SW : Dev nD → S1.Idx → Elt F .f32)

/-! ## Slots and shares -/

/-- A pair of slots is its two slots; -/
theorem pair_split (c : Dev nD) (s : ℕ) (q : PosShare TreeShare) (f) :
    commPts (F := F) c (pairSet s) q f ⊣⊢ iprop(commPts (F := F) c (slotSet s) q f ∗ commPts (F := F) c (slotSet (s + 1)) q f) := by
  unfold commPts
  exact pointsTo_union (slotSet_disjoint (Nat.ne_of_lt (Nat.lt_succ_self s)))

/-- any share is its two halves; -/
theorem share_split (c : Dev nD) (S) (q : PosShare TreeShare) (f) :
    commPts (F := F) c S q f ⊣⊢ iprop(commPts (F := F) c S q.left f ∗ commPts (F := F) c S q.right f) := by
  unfold commPts
  exact pointsTo_share (PosShare.mem_left_op_right q)

theorem pair_disjoint {s t : ℕ} (h : s + 1 < t ∨ t + 1 < s) : Disjoint (pairSet s) (pairSet t) := by
  refine Finset.disjoint_union_left.mpr ⟨Finset.disjoint_union_right.mpr ⟨?_, ?_⟩, Finset.disjoint_union_right.mpr ⟨?_, ?_⟩⟩ <;>
    exact slotSet_disjoint (by omega)

/-- all slots together are the buffer. -/
theorem comm_split (c : Dev nD) (f : S8x512x4096.Idx → Elt F .i8) :
    ((commM : Memref sig .tc .vmem S8x512x4096 .i8).view.loc (c : Thread nD τ) ↦{fullShare} f : sProp 𝕄)
      ⊣⊢ iprop(commPts (F := F) c (pairSet 0) fullShare f ∗ commPts (F := F) c (pairSet 2) fullShare f
        ∗ commPts (F := F) c (pairSet 4) fullShare f ∗ commPts (F := F) c (slotSet 6) fullShare f ∗ commPts (F := F) c (slotSet 7) fullShare f) := by
  have hu : (Finset.univ : Finset S8x512x4096.Idx) = pairSet 0 ∪ (pairSet 2 ∪ (pairSet 4 ∪ (slotSet 6 ∪ slotSet 7))) := by
    ext i
    have : (i 0).val < 8 := (i 0).isLt
    simp only [Finset.mem_univ, Finset.mem_union, mem_slotSet, true_iff]
    omega
  have d4 : Disjoint (pairSet 4) (slotSet 6 ∪ slotSet 7) := pair_disjoint (s := 4) (t := 6) (by omega)
  have d2 : Disjoint (pairSet 2) (pairSet 4 ∪ (slotSet 6 ∪ slotSet 7)) :=
    Finset.disjoint_union_right.mpr ⟨pair_disjoint (by omega), pair_disjoint (s := 2) (t := 6) (by omega)⟩
  have d0 : Disjoint (pairSet 0) (pairSet 2 ∪ (pairSet 4 ∪ (slotSet 6 ∪ slotSet 7))) :=
    Finset.disjoint_union_right.mpr ⟨pair_disjoint (by omega),
      Finset.disjoint_union_right.mpr ⟨pair_disjoint (by omega), pair_disjoint (s := 0) (t := 6) (by omega)⟩⟩
  unfold commPts
  show ((commM : Memref sig .tc .vmem S8x512x4096 .i8).view.loc (c : Thread nD τ) ↦[Finset.univ]{fullShare} f : sProp 𝕄) ⊣⊢ _
  rw [hu]
  refine (pointsTo_union d0).trans (sep_congr_right ?_)
  refine (pointsTo_union d2).trans (sep_congr_right ?_)
  refine (pointsTo_union d4).trans (sep_congr_right ?_)
  exact pointsTo_union (slotSet_disjoint (by omega))

/-- The stored own rows are what the first pair of slots is to hold. -/
theorem own_rows (c : Dev nD) (f : S8x512x4096.Idx → Elt F .i8) (h) :
    (((commM : Memref sig .tc .vmem S8x512x4096 .i8).access (Rect.unit (s := S8x512x4096) ![0, 0, 0] S2x512x4096.size h)).loc (c : Thread nD τ)
        ↦[pairSet 0]{fullShare}
        (((commM : Memref sig .tc .vmem S8x512x4096 .i8).access (Rect.unit (s := S8x512x4096) ![0, 0, 0] S2x512x4096.size h)).write (Elt F) f
          (k0_pay2 (X c)) Finset.univ) : sProp 𝕄)
      = commPts (F := F) c (pairSet 0) fullShare (gathered X c) := by
  unfold commPts
  have hs : (pairM 0 h).view.set = pairSet 0 := set_pair 0 h
  rw [← hs]
  exact pointsTo_congr (write_agrees (pairM 0 h).view f (gathered X c) _ (by rw [read_pair X c 0 0 rfl, pay2_eq]; rfl))

/-! ## Tiles and bands -/

/-- The staging buffer is its two tiles. -/
theorem stage_split (c : Dev nD) (f : S2x512x2048.Idx → Elt F .f32) :
    ((stageM : Memref sig .tc .vmem S2x512x2048 .f32).view.loc (c : Thread nD τ) ↦{fullShare} f : sProp 𝕄) ⊢ iprop(tileAny (F := F) c 0 ∗ tileAny (F := F) c 1) := by
  have hu : (Finset.univ : Finset S2x512x2048.Idx) = halfSet 0 ∪ halfSet 1 := by
    ext i
    have : (i 0).val < 2 := (i 0).isLt
    simp only [Finset.mem_univ, Finset.mem_union, mem_halfSet, true_iff]
    omega
  unfold tileAny
  show ((stageM : Memref sig .tc .vmem S2x512x2048 .f32).view.loc (c : Thread nD τ) ↦[Finset.univ]{fullShare} f : sProp 𝕄) ⊢ _
  rw [hu]
  iintro H
  ihave H := (pointsTo_union (halfSet_disjoint (p := 0) (q := 1) (by decide))).1 $$ H
  icases H with ⟨H0, H1⟩
  isplitl [H0]
  · iexists f; iexact H0
  iexists f; iexact H1

theorem stage_join (c : Dev nD) :
    iprop(tileAny (F := F) c 0 ∗ tileAny (F := F) c 1)
      ⊢ iprop(∃ f : S2x512x2048.Idx → Elt F .f32, (stageM : Memref sig .tc .vmem S2x512x2048 .f32).view.loc (c : Thread nD τ) ↦{fullShare} f) := by
  have hu : halfSet 0 ∪ halfSet 1 = (Finset.univ : Finset S2x512x2048.Idx) := by
    ext i
    have : (i 0).val < 2 := (i 0).isLt
    simp only [Finset.mem_univ, Finset.mem_union, mem_halfSet, iff_true]
    omega
  unfold tileAny
  iintro ⟨⟨%f, H0⟩, ⟨%g, H1⟩⟩
  ihave H := (pointsTo_join (ℓ := (stageM : Memref sig .tc .vmem S2x512x2048 .f32).view.loc (c : Thread nD τ)) (I := halfSet 0) (J := halfSet 1)
      (halfSet_disjoint (p := 0) (q := 1) (by decide))) $$ [H0 H1]
  · isplitl [H0] <;> iassumption
  rw [hu]
  iexists _
  iexact H

/-- The band of the result that the rows in gather slot `s` of device `c` yield. -/
def bandOf (c : Dev nD) (s : ℕ) : ℕ := 2 * (srcDev c (s / 2)).val + s % 2

/-- The eight slots' bands are the result array. -/
theorem bands_eq (c : Dev nD) (f : S4096x2048.Idx → Elt F .f32) :
    ((outM : Memref sig .tc .hbm S4096x2048 .f32).view.loc (c : Thread nD τ) ↦{fullShare} f : sProp 𝕄)
      = bigSep (Finset.univ : Finset (Fin 8)) fun s => (outM : Memref sig .tc .hbm S4096x2048 .f32).view.loc (c : Thread nD τ) ↦[bandSet (bandOf c s.val)]{fullShare} f := by
  have hi : ∀ (c : Dev nD) (s t : Fin 8), s ≠ t → bandOf c s.val ≠ bandOf c t.val := by decide
  have hs : ∀ (c : Dev nD) (g : Fin 8), ∃ s : Fin 8, bandOf c s.val = g.val := by decide
  refine Eq.trans ?_ (pointsTo_biUnion (ℓ := (outM : Memref sig .tc .hbm S4096x2048 .f32).view.loc (c : Thread nD τ)) Finset.univ
    (fun s : Fin 8 => bandSet (bandOf c s.val)) (fun s _ t _ h => bandSet_disjoint (hi c s t h)))
  congr 1
  symm
  refine Finset.eq_univ_iff_forall.mpr fun i => Finset.mem_biUnion.mpr ?_
  have h0 : (i 0).val < 4096 := (i 0).isLt
  obtain ⟨s, h⟩ := hs c ⟨(i 0).val / 512, by omega⟩
  exact ⟨s, Finset.mem_univ s, mem_bandSet.mpr h.symm⟩

theorem eight {M : Type} [URA M] (P : Fin 8 → sProp M) :
    bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]
  simp only [bigSepL_cons_cons, bigSepL_singleton]
  rfl
theorem nine {M : Type} [URA M] (P : Fin 9 → sProp M) :
    bigSep Finset.univ P = iprop(P 0 ∗ P 1 ∗ P 2 ∗ P 3 ∗ P 4 ∗ P 5 ∗ P 6 ∗ P 7 ∗ P 8) := by
  rw [bigSep_univ_eq_bigSepL [0, 1, 2, 3, 4, 5, 6, 7, 8] (by decide) (by decide)]
  simp only [bigSepL_cons_cons, bigSepL_singleton]
  rfl

theorem bands_split (c : Dev nD) (f : S4096x2048.Idx → Elt F .f32) :
    ((outM : Memref sig .tc .hbm S4096x2048 .f32).view.loc (c : Thread nD τ) ↦{fullShare} f : sProp 𝕄)
      ⊢ iprop(bandAny (F := F) c (bandOf c 0) ∗ bandAny (F := F) c (bandOf c 1) ∗ bandAny (F := F) c (bandOf c 2) ∗ bandAny (F := F) c (bandOf c 3)
        ∗ bandAny (F := F) c (bandOf c 4) ∗ bandAny (F := F) c (bandOf c 5) ∗ bandAny (F := F) c (bandOf c 6) ∗ bandAny (F := F) c (bandOf c 7)) := by
  rw [bands_eq]
  have h : ∀ s ∈ (Finset.univ : Finset (Fin 8)),
      ((outM : Memref sig .tc .hbm S4096x2048 .f32).view.loc (c : Thread nD τ) ↦[bandSet (bandOf c s.val)]{fullShare} f : sProp 𝕄) ⊢ bandAny (F := F) c (bandOf c s.val) := by
    intro s _
    unfold bandAny
    iintro H; iexists f; iexact H
  refine (bigSep_mono h).trans ?_
  rw [eight]
  exact BI.Entails.refl _

theorem bands_join (c : Dev nD) :
    iprop(bandDone X W SX SW c (bandOf c 0) ∗ bandDone X W SX SW c (bandOf c 1) ∗ bandDone X W SX SW c (bandOf c 2) ∗ bandDone X W SX SW c (bandOf c 3)
        ∗ bandDone X W SX SW c (bandOf c 4) ∗ bandDone X W SX SW c (bandOf c 5) ∗ bandDone X W SX SW c (bandOf c 6) ∗ bandDone X W SX SW c (bandOf c 7))
      ⊢ ((outM : Memref sig .tc .hbm S4096x2048 .f32).view.loc (c : Thread nD τ) ↦{fullShare} resultOf X W SX SW c : sProp 𝕄) := by
  rw [bands_eq, eight]
  unfold bandDone
  exact BI.Entails.refl _

/-! ## The barrier -/

section Bar
variable (K : Dev nD × Fin 9 → ℕ) (c : Dev nD)

/-- A signal to the barrier of device `d`, whose neighbour the signalling device is: it hands over the slots that `d`
    will fill. -/
theorem signal_bar (n d : Dev nD) (hn : n = d) (b : Bool) (O : CellTallies nD τ sig Unit) (k' : ℕ) (hk : k' = 1)
    {α : Type} {Q : α → sProp 𝕄} {k : PUnit → Prog (TpuEff nD τ sig (Elt F) Λ₀ .tc) α} :
    iprop(records X K ∗ owesSome (F := F) c (O + tallyAt (barCell d) () 1) ∗ dutyTok ER (barCell d) 0 b ∗ barPay (F := F) d b)
      ⊢ iprop((owesSome (F := F) c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold owesSome
  iintro ⟨#HR, ⟨%P, HO⟩, Ht, Hp⟩ Hk
  iapply (Rounds.wp_signal 𝒱₀ ER (ringRd X) (c : Thread nD τ) none (dst := (n : Thread nD τ)) (κ := K (n, 0)) (r := 0)
      (d := b) (by rw [duties_bar]; exact Finset.mem_univ _) rfl () O rfl (W := P)) $$ [HO Ht Hp]
  · isplitr; · iapply (inv_of_records X K (n, 0)); iexact HR
    isplitl [HO]; · iexact HO
    isplitl [Ht]; · iexact Ht
    isplitl [Hp]; · iapply (show barPay (F := F) n b ⊢ (ringRd X).payload (barCell n) 0 b from BI.Entails.refl _); iexact Hp
    iapply (reached_of_records X K (n, 0)); iexact HR
  iintro HO
  iapply Hk
  iexists P; iexact HO

/-- The wait for both neighbours: their slots come with it. -/
theorem wait_bar (O : CellTallies nD τ sig Unit) (hO : Above 1 O) (k' : ℕ) (hk : k' = 2)
    {α : Type} {Q : α → sProp 𝕄} {k : PUnit → Prog (TpuEff nD τ sig (Elt F) Λ₀ .tc) α} :
    iprop(records X K ∗ levAts L lv ∗ cred (tallyAt (barCell c) () 2) ∗ owesSome (F := F) c O ∗ atPos ER (kcell (c, 0)) 0 ∅ 0)
      ⊢ iprop(((owesSome (F := F) c O ∗ atPos ER (kcell (c, 0)) 1 ∅ 0 ∗ barPay (F := F) c false ∗ barPay (F := F) c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold owesSome
  iintro ⟨#HR, #Hlev, Hc, ⟨%P, HO⟩, Hat⟩ Hk
  iapply (Rounds.wp_wait_rest_token 𝒱₀ ER (ringRd X) (c : Thread nD τ) none (κ := K (c, 0))
      (wpE_semWait_eq 𝒱₀ (c : Thread nD τ) none Set.univ) (Set.mem_univ _) () (O := O) (W := P) (R := 0) (m := 0) (T := ∅)
      (by rw [expect_bar])) $$ [Hc HO Hat]
  · isplitr; · iapply (inv_of_records X K (c, 0)); iexact HR
    isplitl [Hc]; · iexact Hc
    isplitl [HO]; · iexact HO
    isplitr; · iapply (may_wait (F := F) 1 c (.reg barS) le_rfl O hO); iexact Hlev
    iexact Hat
  iintro ⟨HO, Hat, -, Hpay⟩
  iapply Hk
  isplitl [HO]; · iexists _; iexact HO
  isplitl [Hat]; · iexact Hat
  iapply (Entails.of_eq (rest_bar X c)); iexact Hpay

end Bar

/-! ## The cells' counters at the end -/

/-- All nine cells of a device close after their round. -/
theorem close_all (K : Dev nD × Fin 9 → ℕ) (c : Dev nD) :
    iprop(records X K ∗ atPos ER (kcell (c, 0)) 1 ∅ 0 ∗ atPos ER (kcell (c, 1)) 1 ∅ 0 ∗ atPos ER (kcell (c, 2)) 1 ∅ 0 ∗ atPos ER (kcell (c, 3)) 1 ∅ 0
        ∗ atPos ER (kcell (c, 4)) 1 ∅ 0 ∗ atPos ER (kcell (c, 5)) 1 ∅ 0 ∗ atPos ER (kcell (c, 6)) 1 ∅ 0 ∗ atPos ER (kcell (c, 7)) 1 ∅ 0
        ∗ atPos ER (kcell (c, 8)) 1 ∅ 0)
      ⊢ |={Set.univ}=> (bigSep Finset.univ fun k : Fin 9 => semVal (kcell (c, k)) 0 : sProp 𝕄) := by
  rw [nine]
  iintro ⟨#HR, H0, H1, H2, H3, H4, H5, H6, H7, H8⟩
  imod (close_cell X K c 0) $$ [H0] with H0; · isplitr; iexact HR; iexact H0
  imod (close_cell X K c 1) $$ [H1] with H1; · isplitr; iexact HR; iexact H1
  imod (close_cell X K c 2) $$ [H2] with H2; · isplitr; iexact HR; iexact H2
  imod (close_cell X K c 3) $$ [H3] with H3; · isplitr; iexact HR; iexact H3
  imod (close_cell X K c 4) $$ [H4] with H4; · isplitr; iexact HR; iexact H4
  imod (close_cell X K c 5) $$ [H5] with H5; · isplitr; iexact HR; iexact H5
  imod (close_cell X K c 6) $$ [H6] with H6; · isplitr; iexact HR; iexact H6
  imod (close_cell X K c 7) $$ [H7] with H7; · isplitr; iexact HR; iexact H7
  imod (close_cell X K c 8) $$ [H8] with H8; · isplitr; iexact HR; iexact H8
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.GatherMatmul

end
-- ==== Proof.Body.lean ====
/-
# One device's body

The kernel's body run at a symbolic device `c`, one step per effect in program order: from what the launch gives the
device to the finished result, every buffer its own again and every semaphore at zero.
-/
module

public import proofs.«01_k».proof.Proof.Pieces

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .i8) (W : Dev nD → S4096x2048.Idx → Elt F .i8) (SX SW : Dev nD → S1.Idx → Elt F .f32)

/-! ## The kernel's names for semaphores, tiles and offsets -/

theorem send0 : ((cc0_scratch3.slice (Rect.unit (s := S4) ![0] ![1] inb_S4_S1_0)).squeeze S_ squeezes_S1_S_).sem = (4 : DmaSem sig) := rfl
theorem send1 : ((cc0_scratch3.slice (Rect.unit (s := S4) ![1] ![1] inb_S4_S1_1)).squeeze S_ squeezes_S1_S_).sem = (5 : DmaSem sig) := rfl
theorem send2 : ((cc0_scratch3.slice (Rect.unit (s := S4) ![2] ![1] inb_S4_S1_2)).squeeze S_ squeezes_S1_S_).sem = (6 : DmaSem sig) := rfl
theorem send3 : ((cc0_scratch3.slice (Rect.unit (s := S4) ![3] ![1] inb_S4_S1_3)).squeeze S_ squeezes_S1_S_).sem = (7 : DmaSem sig) := rfl
theorem recv0 : ((cc0_scratch4.slice (Rect.unit (s := S4) ![0] ![1] inb_S4_S1_0)).squeeze S_ squeezes_S1_S_).sem = (8 : DmaSem sig) := rfl
theorem recv1 : ((cc0_scratch4.slice (Rect.unit (s := S4) ![1] ![1] inb_S4_S1_1)).squeeze S_ squeezes_S1_S_).sem = (9 : DmaSem sig) := rfl
theorem recv2 : ((cc0_scratch4.slice (Rect.unit (s := S4) ![2] ![1] inb_S4_S1_2)).squeeze S_ squeezes_S1_S_).sem = (10 : DmaSem sig) := rfl
theorem recv3 : ((cc0_scratch4.slice (Rect.unit (s := S4) ![3] ![1] inb_S4_S1_3)).squeeze S_ squeezes_S1_S_).sem = (11 : DmaSem sig) := rfl
theorem store0 : ((cc0_scratch5.slice (Rect.unit (s := S2) ![0] ![1] inb_S2_S1_0)).squeeze S_ squeezes_S1_S_).sem = (12 : DmaSem sig) := rfl
theorem store1 : ((cc0_scratch5.slice (Rect.unit (s := S2) ![1] ![1] inb_S2_S1_1)).squeeze S_ squeezes_S1_S_).sem = (13 : DmaSem sig) := rfl

/-- Every tile is staged as the same function of a slot and the weights, whether the kernel names it in one piece -/
theorem pay6_eq (a : F .f32) (x : Vec F S1x512x4096 .i8) (w : Vec F S4096x2048 .bf16) : k0_pay6 a x w = k0_pay5 (k0_pay4 a x w) := rfl
theorem pay7_eq (a : F .f32) (x : Vec F S1x512x4096 .i8) (w : Vec F S4096x2048 .bf16) : k0_pay7 a x w = k0_pay5 (k0_pay4 a x w) := rfl
theorem pay8_eq (a : F .f32) (x : Vec F S1x512x4096 .i8) (w : Vec F S4096x2048 .bf16) : k0_pay8 a x w = k0_pay5 (k0_pay4 a x w) := rfl
theorem pay11_eq (a : F .f32) (x : Vec F S1x512x4096 .i8) (w : Vec F S4096x2048 .bf16) : k0_pay11 a x w = k0_pay5 (k0_pay4 a x w) := rfl
theorem pay12_eq (a : F .f32) (x : Vec F S1x512x4096 .i8) (w : Vec F S4096x2048 .bf16) : k0_pay12 a x w = k0_pay5 (k0_pay4 a x w) := rfl
/-- or in two. -/
theorem pay9_eq (a : F .f32) (x : Vec F S1x512x4096 .i8) (w : Vec F S4096x2048 .bf16) : k0_pay9 a x w = k0_pay4 a x w := rfl
theorem pay13_eq (a : F .f32) (x : Vec F S1x512x4096 .i8) (w : Vec F S4096x2048 .bf16) : k0_pay13 a x w = k0_pay4 a x w := rfl
theorem pay10_eq (t : FVec F S512x2048 .f32) : k0_pay10 t = k0_pay5 t := rfl
theorem pay14_eq (t : FVec F S512x2048 .f32) : k0_pay14 t = k0_pay5 t := rfl

/-- The rows where the tile of slot `s` goes. -/
theorem off_slot (c : Dev nD) (s a b : ℕ) (ha : a = bandOf c s) (hb : b = 512 * a) : (![b, 0] : Fin 2 → ℕ) = ![512 * bandOf c s, 0] := by
  subst ha hb; rfl

/-! ## The body -/

/-- The operands' staging buffers, as the launch fills them. -/
def operands (c : Dev nD) : sProp 𝕄 :=
  iprop(((c : Thread nD τ).loc cc0_stg0_0 ↦{fullShare} X c) ∗ ((c : Thread nD τ).loc cc0_stg1_0 ↦{fullShare} W c)
    ∗ ((c : Thread nD τ).loc cc0_stg2_0 ↦{fullShare} SX c) ∗ ((c : Thread nD τ).loc cc0_stg3_0 ↦{fullShare} SW c))
/-- The buffers of the kernel's own, at whatever contents. -/
def scratch (c : Dev nD) : sProp 𝕄 :=
  iprop((∃ f : S8x512x4096.Idx → Elt F .i8, (commM : Memref sig .tc .vmem S8x512x4096 .i8).view.loc (c : Thread nD τ) ↦{fullShare} f)
    ∗ (∃ f : S4096x2048.Idx → Elt F .bf16, (wbfM : Memref sig .tc .vmem S4096x2048 .bf16).view.loc (c : Thread nD τ) ↦{fullShare} f)
    ∗ ∃ f : S2x512x2048.Idx → Elt F .f32, (stageM : Memref sig .tc .vmem S2x512x2048 .f32).view.loc (c : Thread nD τ) ↦{fullShare} f)
/-- The result array at contents `f`. -/
def outPts (c : Dev nD) (f : S4096x2048.Idx → Elt F .f32) : sProp 𝕄 :=
  (outM : Memref sig .tc .hbm S4096x2048 .f32).view.loc (c : Thread nD τ) ↦{fullShare} f
/-- All the protocol's and the stores' semaphores at zero. -/
def atRest (c : Dev nD) : sProp 𝕄 := iprop((bigSep Finset.univ fun k : Fin 9 => semVal (kcell (c, k)) 0) ∗ storeSems (F := F) c)

/-- What the body starts from -/
def before (c : Dev nD) : sProp 𝕄 :=
  iprop(ghost X c ∗ levAts L lv ∗ credits (F := F) c ∗ owesSome (F := F) c (D0 c) ∗ operands X W SX SW c ∗ scratch (F := F) c
    ∗ ∃ f, outPts (F := F) c f)
/-- and what it leaves. -/
def after (c : Dev nD) : sProp 𝕄 :=
  iprop(owesSome (F := F) c 0 ∗ operands X W SX SW c ∗ scratch (F := F) c ∗ outPts (F := F) c (resultOf X W SX SW c) ∗ atRest (F := F) c)

set_option maxRecDepth 4000 in
set_option maxHeartbeats 4000000 in
/-- The body of the kernel on device `c`. -/
theorem sound_body (c : Dev nD) (Q : PUnit → sProp 𝕄) :
    iprop(before X W SX SW c ∗ (after X W SX SW c -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, Prog.bind_assoc, wp_deviceId]
  simp only [send0, send1, send2, send3, recv0, recv1, recv2, recv3, store0, store1,
    pay6_eq, pay7_eq, pay8_eq, pay9_eq, pay10_eq, pay11_eq, pay12_eq, pay13_eq, pay14_eq]
  unfold before ghost credits operands scratch outPts storeSems payToks positions
  rw [nine]
  iintro ⟨⟨⟨%K, #HR, ⟨Ha0, Ha1, Ha2, Ha3, Ha4, Ha5, Ha6, Ha7, Ha8⟩, ⟨HtbN, HtbP, Ht4, Ht5, Ht6, Ht7, Ht8, Ht9, Ht10, Ht11⟩, Hv0, Hv1⟩, #Hlev,
    ⟨Hcb, Hc8, Hc9, Hc10, Hc11⟩, HO, ⟨Hx, Hw, Hsx, Hsw⟩, ⟨⟨%fc, Hcomm⟩, ⟨%fw, Hwbf⟩, ⟨%fs, Hstage⟩⟩, ⟨%fo, Hout⟩⟩, Hk⟩
  -- the gather buffer in its slots
  ihave Hcomm := (comm_split c fc).1 $$ Hcomm
  icases Hcomm with ⟨Hp0, Hp2, Hp4, Hs6, Hs7⟩
  -- the signals to both neighbours and the wait for theirs
  iapply (signal_bar X K c _ (prv c) (dev1_eq c) true (D1 c) _ (by decide)) $$ [HO HtbP Hp2 Hs6]
  · isplitr; · iexact HR
    isplitl [HO]; · unfold D0; iexact HO
    isplitl [HtbP]; · iexact HtbP
    unfold barPay commAny
    rw [if_pos rfl, nxt_prv]
    isplitl [Hp2]
    · iexists fc; iexact Hp2
    iexists fc; iexact Hs6
  iintro HO
  iapply (signal_bar X K c _ (nxt c) (dev2_eq c) false (D2 c) _ (by decide)) $$ [HO HtbN Hp4 Hs7]
  · isplitr; · iexact HR
    isplitl [HO]; · unfold D1; iexact HO
    isplitl [HtbN]; · iexact HtbN
    unfold barPay commAny
    rw [if_neg Bool.false_ne_true, prv_nxt]
    isplitl [Hp4]
    · iexists fc; iexact Hp4
    iexists fc; iexact Hs7
  iintro HO
  iapply (wait_bar X K c (D2 c) (above_D2 c 1 (by decide)) _ (by decide)) $$ [Hcb HO Ha0]
  · isplitr; · iexact HR
    isplitr; · iexact Hlev
    isplitl [Hcb]; · iexact Hcb
    isplitl [HO]; · iexact HO
    iexact Ha0
  iintro ⟨HO, Ha0, HpayP, HpayN⟩
  ihave HpayP := (show barPay (F := F) c false ⊢ iprop(commAny (F := F) (prv c) (pairSet 4) ∗ commAny (F := F) (prv c) (slotSet 7)) from BI.Entails.refl _) $$ HpayP
  ihave HpayN := (show barPay (F := F) c true ⊢ iprop(commAny (F := F) (nxt c) (pairSet 2) ∗ commAny (F := F) (nxt c) (slotSet 6)) from BI.Entails.refl _) $$ HpayN
  icases HpayP with ⟨HqP4, HqP7⟩
  icases HpayN with ⟨HqN2, HqN6⟩
  -- the scales and the own rows are read; the rows are stored in the first pair of slots
  have z1 : (![0] : Fin 1 → ℕ) = fun _ => 0 := by funext a; fin_cases a; rfl
  have z2 : (![0, 0] : Fin 2 → ℕ) = fun _ => 0 := by funext a; fin_cases a <;> rfl
  have esx : (sxM : Memref sig .tc .vmem S1 .f32).view.readAt (Elt F) (Rect.unit (s := S1) ![0] S1.size inb_S1_S1_0).toLoadRect (SX c) = SX c :=
    Memref.readAt_unit_zero (Elt F) cc0_stg2_0 z1 inb_S1_S1_0 _
  have esw : (swM : Memref sig .tc .vmem S1 .f32).view.readAt (Elt F) (Rect.unit (s := S1) ![0] S1.size inb_S1_S1_0).toLoadRect (SW c) = SW c :=
    Memref.readAt_unit_zero (Elt F) cc0_stg3_0 z1 inb_S1_S1_0 _
  have ex : (xM : Memref sig .tc .vmem S1024x4096 .i8).view.readAt (Elt F) (Rect.unit (s := S1024x4096) ![0, 0] S1024x4096.size inb_S1024x4096_S1024x4096_0_0).toLoadRect (X c) = X c :=
    Memref.readAt_unit_zero (Elt F) cc0_stg0_0 z2 inb_S1024x4096_S1024x4096_0_0 _
  have ew : (wM : Memref sig .tc .vmem S4096x2048 .i8).view.readAt (Elt F) (Rect.unit (s := S4096x2048) ![0, 0] S4096x2048.size inb_S4096x2048_S4096x2048_0_0).toLoadRect (W c) = W c :=
    Memref.readAt_unit_zero (Elt F) cc0_stg1_0 z2 inb_S4096x2048_S4096x2048_0_0 _
  have sp : ((commM : Memref sig .tc .vmem S8x512x4096 .i8).access (Rect.unit (s := S8x512x4096) ![0, 0, 0] S2x512x4096.size inb_S8x512x4096_S2x512x4096_0_0_0)).set ⊆ pairSet 0 :=
    (set_pair 0 inb_S8x512x4096_S2x512x4096_0_0_0).subset
  have sp' : (commM : Memref sig .tc .vmem S8x512x4096 .i8).view.setOn (Rect.unit (s := S8x512x4096) ![0, 0, 0] S2x512x4096.size inb_S8x512x4096_S2x512x4096_0_0_0).toLoadRect.set ⊆ pairSet 0 := by
    rw [View.set_slice] at sp; exact sp
  iapply (wp_load 𝒱₀ (c : Thread nD τ) none Set.univ (m := sxM) (Finset.subset_univ _)) $$ Hsx; iintro Hsx
  rw [esx]
  iapply (wp_load 𝒱₀ (c : Thread nD τ) none Set.univ (m := swM) (Finset.subset_univ _)) $$ Hsw; iintro Hsw
  rw [esw]
  iapply (wp_load 𝒱₀ (c : Thread nD τ) none Set.univ (m := xM) (Finset.subset_univ _)) $$ Hx; iintro Hx
  rw [ex]
  unfold commPts
  iapply (wp_load 𝒱₀ (c : Thread nD τ) none Set.univ (m := commM) sp') $$ Hp0; iintro Hp0
  iapply (wp_store 𝒱₀ (c : Thread nD τ) none Set.univ (m := commM) (Mk := Finset.univ) sp) $$ Hp0; iintro Hp0
  ihave Hp0 := (Entails.of_eq (own_rows X c fc inb_S8x512x4096_S2x512x4096_0_0_0)) $$ Hp0
  -- they are lent to the two first transfers, a part each, and kept for reading
  ihave Hp0 := (share_split c (pairSet 0) fullShare (gathered X c)).1 $$ Hp0
  icases Hp0 with ⟨Hl4, Hp0⟩
  ihave Hp0 := (share_split c (pairSet 0) fullShare.right (gathered X c)).1 $$ Hp0
  icases Hp0 with ⟨Hl5, Hp0⟩
  ihave Hp0 := (pair_split c 0 fullShare.right.right (gathered X c)).1 $$ Hp0
  icases Hp0 with ⟨Hs0, Hs1⟩
  -- the first transfers, to the right and to the left
  iapply (send_pair K c (nxt c) _ (dev3_eq c) 1 5 4 8 rfl rfl (by decide) (by decide) rfl rfl 2 1 rfl rfl rfl rfl (prv_nxt c) inb_S8x512x4096_S2x512x4096_0_0_0 inb_S8x512x4096_S2x512x4096_2_0_0 (O := D3 c)) $$ [Hl4 HqN2 HO Ht4 Ht8]
  · isplitr; · iexact HR
    isplitl [Hl4]; · iapply (show commPts (F := F) c (pairSet 0) fullShare.left (gathered X c) ⊢ ringPay X c (4 : DmaSem sig).val from BI.Entails.refl _); iexact Hl4
    isplitl [HqN2]; · iexact HqN2
    isplitl [HO]; · unfold D2; iexact HO
    isplitl [Ht4]; · iexact Ht4
    iexact Ht8
  iintro ⟨Hc4, HO⟩
  iapply (send_pair K c (prv c) _ (dev4_eq c) 2 6 5 9 rfl rfl (by decide) (by decide) rfl rfl 4 2 rfl rfl rfl rfl (nxt_prv c) inb_S8x512x4096_S2x512x4096_0_0_0 inb_S8x512x4096_S2x512x4096_4_0_0 (O := D4 c)) $$ [Hl5 HqP4 HO Ht5 Ht9]
  · isplitr; · iexact HR
    isplitl [Hl5]; · iapply (show commPts (F := F) c (pairSet 0) fullShare.right.left (gathered X c) ⊢ ringPay X c (5 : DmaSem sig).val from BI.Entails.refl _); iexact Hl5
    isplitl [HqP4]; · iexact HqP4
    isplitl [HO]; · unfold D3; iexact HO
    isplitl [Ht5]; · iexact Ht5
    iexact Ht9
  iintro ⟨Hc5, HO⟩
  -- the weights become bf16
  iapply (wp_load 𝒱₀ (c : Thread nD τ) none Set.univ (m := wM) (Finset.subset_univ _)) $$ Hw; iintro Hw
  rw [ew]
  iapply (wp_load 𝒱₀ (c : Thread nD τ) none Set.univ (m := wbfM) (Finset.subset_univ _)) $$ Hwbf; iintro Hwbf
  iapply (wp_store 𝒱₀ (c : Thread nD τ) none Set.univ (m := wbfM)
    (r := Rect.unit (s := S4096x2048) ![0, 0] S4096x2048.size inb_S4096x2048_S4096x2048_0_0) (Mk := Finset.univ) (Finset.subset_univ _)) $$ Hwbf; iintro Hwbf
  have ewb : ((wbfM : Memref sig .tc .vmem S4096x2048 .bf16).access (Rect.unit (s := S4096x2048) ![0, 0] S4096x2048.size inb_S4096x2048_S4096x2048_0_0)).write (Elt F) fw (k0_pay3 (W c)) Finset.univ = k0_pay3 (W c) :=
    Memref.write_access_unit_zero_univ (Elt F) cc0_scratch1 z2 inb_S4096x2048_S4096x2048_0_0 fw _
  rw [ewb]
  ihave Hwbf := (show ((wbfM : Memref sig .tc .vmem S4096x2048 .bf16).view.loc (c : Thread nD τ) ↦{fullShare} (k0_pay3 (W c) : S4096x2048.Idx → Elt F .bf16) : sProp 𝕄)
    ⊢ wbfPts W c from BI.Entails.refl _) $$ Hwbf
  -- the result in its bands, the staging buffer in its tiles; the two tiles of the own rows
  ihave Hout := (bands_split c fo) $$ Hout
  icases Hout with ⟨Hb0, Hb1, Hb2, Hb3, Hb4, Hb5, Hb6, Hb7⟩
  ihave Hstage := (stage_split c fs) $$ Hstage
  icases Hstage with ⟨Ht0, Ht1⟩
  iapply (make_tile X W SX SW c 0 0 (bandOf c 0) 12 fullShare.right.right _ rfl ((k0_off1_eq c).trans (off_slot c 0 _ _ rfl (by show _ = 512 * (2 * (c.val) + 0); omega))) inb_S8x512x4096_S1x512x4096_0_0_0 inb_S2x512x2048_S1x512x2048_0_0_0 inb_S2x512x2048_S1x512x2048_0_0_0 (k0_off1_inb c) inb_S4096x2048_S4096x2048_0_0) $$ [Hs0 Hwbf Ht0 Hb0 Hv0]
  · isplitl [Hs0]; · iexact Hs0
    isplitl [Hwbf]; · iexact Hwbf
    isplitl [Ht0]; · iexact Ht0
    isplitl [Hb0]; · iexact Hb0
    iexact Hv0
  iintro ⟨Hs0, Hwbf, Hf0⟩
  iapply (make_tile X W SX SW c 1 1 (bandOf c 1) 13 fullShare.right.right _ rfl ((k0_off2_eq c).trans (off_slot c 1 _ _ rfl (by show _ = 512 * (2 * (c.val) + 1); omega))) inb_S8x512x4096_S1x512x4096_1_0_0 inb_S2x512x2048_S1x512x2048_1_0_0 inb_S2x512x2048_S1x512x2048_1_0_0 (k0_off2_inb c) inb_S4096x2048_S4096x2048_0_0) $$ [Hs1 Hwbf Ht1 Hb1 Hv1]
  · isplitl [Hs1]; · iexact Hs1
    isplitl [Hwbf]; · iexact Hwbf
    isplitl [Ht1]; · iexact Ht1
    isplitl [Hb1]; · iexact Hb1
    iexact Hv1
  iintro ⟨Hs1, Hwbf, Hf1⟩
  -- the left neighbour's rows have landed; their first half goes on to the right
  iapply (wait_ring X K c 5 8 rfl (by decide) (D4 c) (above_D4 c 2 (by decide)) (src := (pairM 0 inb_S8x512x4096_S2x512x4096_0_0_0)) (dst := (pairM 2 inb_S8x512x4096_S2x512x4096_2_0_0)) rfl) $$ [Hc8 HO Ha5]
  · isplitr; · iexact HR
    isplitr; · iexact Hlev
    isplitl [Hc8]; · iexact Hc8
    isplitl [HO]; · iexact HO
    iexact Ha5
  iintro ⟨HO, Ha5, Hp2⟩
  ihave Hp2 := (show ringPay X c (8 : DmaSem sig).val ⊢ commPts (F := F) c (pairSet 2) fullShare (gathered X c) from BI.Entails.refl _) $$ Hp2
  ihave Hp2 := (pair_split c 2 fullShare (gathered X c)).1 $$ Hp2
  icases Hp2 with ⟨Hs2, Hs3⟩
  ihave Hs2 := (share_split c (slotSet 2) fullShare (gathered X c)).1 $$ Hs2
  icases Hs2 with ⟨Hl6, Hs2⟩
  iapply (send_slot K c (nxt c) _ (dev5_eq c) 3 7 6 10 rfl rfl (by decide) (by decide) rfl rfl 2 6 rfl rfl rfl (by show halfRows (X (opp (nxt c))) 6 = halfRows (X (prv c)) 2; rw [opp_nxt]; rfl) inb_S8x512x4096_S1x512x4096_2_0_0 inb_S8x512x4096_S1x512x4096_6_0_0 (O := D5 c)) $$ [Hl6 HqN6 HO Ht6 Ht10]
  · isplitr; · iexact HR
    isplitl [Hl6]; · iapply (show commPts (F := F) c (slotSet 2) fullShare.left (gathered X c) ⊢ ringPay X c (6 : DmaSem sig).val from BI.Entails.refl _); iexact Hl6
    isplitl [HqN6]; · iexact HqN6
    isplitl [HO]; · unfold D4; iexact HO
    isplitl [Ht6]; · iexact Ht6
    iexact Ht10
  iintro ⟨Hc6, HO⟩
  -- the right neighbour's rows have landed; their second half goes on to the left
  iapply (wait_ring X K c 6 9 rfl (by decide) (D5 c) (above_D5 c 2 (by decide)) (src := (pairM 0 inb_S8x512x4096_S2x512x4096_0_0_0)) (dst := (pairM 4 inb_S8x512x4096_S2x512x4096_4_0_0)) rfl) $$ [Hc9 HO Ha6]
  · isplitr; · iexact HR
    isplitr; · iexact Hlev
    isplitl [Hc9]; · iexact Hc9
    isplitl [HO]; · iexact HO
    iexact Ha6
  iintro ⟨HO, Ha6, Hp4⟩
  ihave Hp4 := (show ringPay X c (9 : DmaSem sig).val ⊢ commPts (F := F) c (pairSet 4) fullShare (gathered X c) from BI.Entails.refl _) $$ Hp4
  ihave Hp4 := (pair_split c 4 fullShare (gathered X c)).1 $$ Hp4
  icases Hp4 with ⟨Hs4, Hs5⟩
  ihave Hs5 := (share_split c (slotSet 5) fullShare (gathered X c)).1 $$ Hs5
  icases Hs5 with ⟨Hl7, Hs5⟩
  iapply (send_slot K c (prv c) _ (dev6_eq c) 4 8 7 11 rfl rfl (by decide) (by decide) rfl rfl 5 7 rfl rfl rfl (by show halfRows (X (opp (prv c))) 7 = halfRows (X (nxt c)) 5; rw [opp_prv]; rfl) inb_S8x512x4096_S1x512x4096_5_0_0 inb_S8x512x4096_S1x512x4096_7_0_0 (O := 0)) $$ [Hl7 HqP7 HO Ht7 Ht11]
  · isplitr; · iexact HR
    isplitl [Hl7]; · iapply (show commPts (F := F) c (slotSet 5) fullShare.left (gathered X c) ⊢ ringPay X c (7 : DmaSem sig).val from BI.Entails.refl _); iexact Hl7
    isplitl [HqP7]; · iexact HqP7
    isplitl [HO]; · rw [zero_add]; unfold D5; iexact HO
    isplitl [Ht7]; · iexact Ht7
    iexact Ht11
  iintro ⟨Hc7, HO⟩
  -- tile after tile
  iapply (wait_tile X W SX SW c 12 0 (bandOf c 0) _ inb_S2x512x2048_S1x512x2048_0_0_0 (k0_off1_inb c)) $$ [Hf0 HO]
  · isplitl [Hf0]; · iexact Hf0
    iexact HO
  iintro ⟨Hb0, Ht0, Hv0, HO⟩
  iapply (make_tile X W SX SW c 2 0 (bandOf c 2) 12 fullShare.right _ rfl ((k0_off3_eq c).trans (off_slot c 2 _ _ rfl (by show _ = 512 * (2 * ((c.val + 3) % 4) + 0); omega))) inb_S8x512x4096_S1x512x4096_2_0_0 inb_S2x512x2048_S1x512x2048_0_0_0 inb_S2x512x2048_S1x512x2048_0_0_0 (k0_off3_inb c) inb_S4096x2048_S4096x2048_0_0) $$ [Hs2 Hwbf Ht0 Hb2 Hv0]
  · isplitl [Hs2]; · iexact Hs2
    isplitl [Hwbf]; · iexact Hwbf
    isplitl [Ht0]; · iexact Ht0
    isplitl [Hb2]; · iexact Hb2
    iexact Hv0
  iintro ⟨Hs2, Hwbf, Hf0⟩
  iapply (wait_tile X W SX SW c 13 1 (bandOf c 1) _ inb_S2x512x2048_S1x512x2048_1_0_0 (k0_off2_inb c)) $$ [Hf1 HO]
  · isplitl [Hf1]; · iexact Hf1
    iexact HO
  iintro ⟨Hb1, Ht1, Hv1, HO⟩
  iapply (make_tile X W SX SW c 3 1 (bandOf c 3) 13 fullShare _ rfl ((k0_off4_eq c).trans (off_slot c 3 _ _ rfl (by show _ = 512 * (2 * ((c.val + 3) % 4) + 1); omega))) inb_S8x512x4096_S1x512x4096_3_0_0 inb_S2x512x2048_S1x512x2048_1_0_0 inb_S2x512x2048_S1x512x2048_1_0_0 (k0_off4_inb c) inb_S4096x2048_S4096x2048_0_0) $$ [Hs3 Hwbf Ht1 Hb3 Hv1]
  · isplitl [Hs3]; · iexact Hs3
    isplitl [Hwbf]; · iexact Hwbf
    isplitl [Ht1]; · iexact Ht1
    isplitl [Hb3]; · iexact Hb3
    iexact Hv1
  iintro ⟨Hs3, Hwbf, Hf1⟩
  iapply (wait_tile X W SX SW c 12 0 (bandOf c 2) _ inb_S2x512x2048_S1x512x2048_0_0_0 (k0_off3_inb c)) $$ [Hf0 HO]
  · isplitl [Hf0]; · iexact Hf0
    iexact HO
  iintro ⟨Hb2, Ht0, Hv0, HO⟩
  iapply (make_tile X W SX SW c 4 0 (bandOf c 4) 12 fullShare _ rfl ((k0_off5_eq c 0).trans (off_slot c 4 _ _ rfl (by show _ = 512 * (2 * ((c.val + 1) % 4) + 0); omega))) inb_S8x512x4096_S1x512x4096_4_0_0 inb_S2x512x2048_S1x512x2048_0_0_0 inb_S2x512x2048_S1x512x2048_0_0_0 (k0_off5_inb c 0) inb_S4096x2048_S4096x2048_0_0) $$ [Hs4 Hwbf Ht0 Hb4 Hv0]
  · isplitl [Hs4]; · iexact Hs4
    isplitl [Hwbf]; · iexact Hwbf
    isplitl [Ht0]; · iexact Ht0
    isplitl [Hb4]; · iexact Hb4
    iexact Hv0
  iintro ⟨Hs4, Hwbf, Hf0⟩
  iapply (wait_tile X W SX SW c 13 1 (bandOf c 3) _ inb_S2x512x2048_S1x512x2048_1_0_0 (k0_off4_inb c)) $$ [Hf1 HO]
  · isplitl [Hf1]; · iexact Hf1
    iexact HO
  iintro ⟨Hb3, Ht1, Hv1, HO⟩
  iapply (make_tile X W SX SW c 5 1 (bandOf c 5) 13 fullShare.right _ rfl ((k0_off6_eq c 0).trans (off_slot c 5 _ _ rfl (by show _ = 512 * (2 * ((c.val + 1) % 4) + 1); omega))) inb_S8x512x4096_S1x512x4096_5_0_0 inb_S2x512x2048_S1x512x2048_1_0_0 inb_S2x512x2048_S1x512x2048_1_0_0 (k0_off6_inb c 0) inb_S4096x2048_S4096x2048_0_0) $$ [Hs5 Hwbf Ht1 Hb5 Hv1]
  · isplitl [Hs5]; · iexact Hs5
    isplitl [Hwbf]; · iexact Hwbf
    isplitl [Ht1]; · iexact Ht1
    isplitl [Hb5]; · iexact Hb5
    iexact Hv1
  iintro ⟨Hs5, Hwbf, Hf1⟩
  -- the halves from the device across have landed
  iapply (wait_ring X K c 7 10 rfl (by decide) 0 (above_zero _) (src := (slotM 2 inb_S8x512x4096_S1x512x4096_2_0_0)) (dst := (slotM 6 inb_S8x512x4096_S1x512x4096_6_0_0)) rfl) $$ [Hc10 HO Ha7]
  · isplitr; · iexact HR
    isplitr; · iexact Hlev
    isplitl [Hc10]; · iexact Hc10
    isplitl [HO]; · iexact HO
    iexact Ha7
  iintro ⟨HO, Ha7, Hs6⟩
  ihave Hs6 := (show ringPay X c (10 : DmaSem sig).val ⊢ commPts (F := F) c (slotSet 6) fullShare (gathered X c) from BI.Entails.refl _) $$ Hs6
  iapply (wait_tile X W SX SW c 12 0 (bandOf c 4) _ inb_S2x512x2048_S1x512x2048_0_0_0 (k0_off5_inb c 0)) $$ [Hf0 HO]
  · isplitl [Hf0]; · iexact Hf0
    iexact HO
  iintro ⟨Hb4, Ht0, Hv0, HO⟩
  iapply (make_tile X W SX SW c 6 0 (bandOf c 6) 12 fullShare _ rfl ((k0_off5_eq c 1).trans (off_slot c 6 _ _ rfl (by show _ = 512 * (2 * ((c.val + 2) % 4) + 0); omega))) inb_S8x512x4096_S1x512x4096_6_0_0 inb_S2x512x2048_S1x512x2048_0_0_0 inb_S2x512x2048_S1x512x2048_0_0_0 (k0_off5_inb c 1) inb_S4096x2048_S4096x2048_0_0) $$ [Hs6 Hwbf Ht0 Hb6 Hv0]
  · isplitl [Hs6]; · iexact Hs6
    isplitl [Hwbf]; · iexact Hwbf
    isplitl [Ht0]; · iexact Ht0
    isplitl [Hb6]; · iexact Hb6
    iexact Hv0
  iintro ⟨Hs6, Hwbf, Hf0⟩
  iapply (wait_ring X K c 8 11 rfl (by decide) 0 (above_zero _) (src := (slotM 5 inb_S8x512x4096_S1x512x4096_5_0_0)) (dst := (slotM 7 inb_S8x512x4096_S1x512x4096_7_0_0)) rfl) $$ [Hc11 HO Ha8]
  · isplitr; · iexact HR
    isplitr; · iexact Hlev
    isplitl [Hc11]; · iexact Hc11
    isplitl [HO]; · iexact HO
    iexact Ha8
  iintro ⟨HO, Ha8, Hs7⟩
  ihave Hs7 := (show ringPay X c (11 : DmaSem sig).val ⊢ commPts (F := F) c (slotSet 7) fullShare (gathered X c) from BI.Entails.refl _) $$ Hs7
  iapply (wait_tile X W SX SW c 13 1 (bandOf c 5) _ inb_S2x512x2048_S1x512x2048_1_0_0 (k0_off6_inb c 0)) $$ [Hf1 HO]
  · isplitl [Hf1]; · iexact Hf1
    iexact HO
  iintro ⟨Hb5, Ht1, Hv1, HO⟩
  iapply (make_tile X W SX SW c 7 1 (bandOf c 7) 13 fullShare _ rfl ((k0_off6_eq c 1).trans (off_slot c 7 _ _ rfl (by show _ = 512 * (2 * ((c.val + 2) % 4) + 1); omega))) inb_S8x512x4096_S1x512x4096_7_0_0 inb_S2x512x2048_S1x512x2048_1_0_0 inb_S2x512x2048_S1x512x2048_1_0_0 (k0_off6_inb c 1) inb_S4096x2048_S4096x2048_0_0) $$ [Hs7 Hwbf Ht1 Hb7 Hv1]
  · isplitl [Hs7]; · iexact Hs7
    isplitl [Hwbf]; · iexact Hwbf
    isplitl [Ht1]; · iexact Ht1
    isplitl [Hb7]; · iexact Hb7
    iexact Hv1
  iintro ⟨Hs7, Hwbf, Hf1⟩
  -- the lent slots come back
  iapply (wait_ring X K c 1 4 rfl (by decide) 0 (above_zero _) (src := (pairM 2 inb_S8x512x4096_S2x512x4096_2_0_0)) (dst := (pairM 0 inb_S8x512x4096_S2x512x4096_0_0_0)) rfl) $$ [Hc4 HO Ha1]
  · isplitr; · iexact HR
    isplitr; · iexact Hlev
    isplitl [Hc4]; · iexact Hc4
    isplitl [HO]; · iexact HO
    iexact Ha1
  iintro ⟨HO, Ha1, Hl4⟩
  iapply (wait_ring X K c 2 5 rfl (by decide) 0 (above_zero _) (src := (pairM 4 inb_S8x512x4096_S2x512x4096_4_0_0)) (dst := (pairM 0 inb_S8x512x4096_S2x512x4096_0_0_0)) rfl) $$ [Hc5 HO Ha2]
  · isplitr; · iexact HR
    isplitr; · iexact Hlev
    isplitl [Hc5]; · iexact Hc5
    isplitl [HO]; · iexact HO
    iexact Ha2
  iintro ⟨HO, Ha2, Hl5⟩
  iapply (wait_ring X K c 3 6 rfl (by decide) 0 (above_zero _) (src := (slotM 6 inb_S8x512x4096_S1x512x4096_6_0_0)) (dst := (slotM 2 inb_S8x512x4096_S1x512x4096_2_0_0)) rfl) $$ [Hc6 HO Ha3]
  · isplitr; · iexact HR
    isplitr; · iexact Hlev
    isplitl [Hc6]; · iexact Hc6
    isplitl [HO]; · iexact HO
    iexact Ha3
  iintro ⟨HO, Ha3, Hl6⟩
  iapply (wait_ring X K c 4 7 rfl (by decide) 0 (above_zero _) (src := (slotM 7 inb_S8x512x4096_S1x512x4096_7_0_0)) (dst := (slotM 5 inb_S8x512x4096_S1x512x4096_5_0_0)) rfl) $$ [Hc7 HO Ha4]
  · isplitr; · iexact HR
    isplitr; · iexact Hlev
    isplitl [Hc7]; · iexact Hc7
    isplitl [HO]; · iexact HO
    iexact Ha4
  iintro ⟨HO, Ha4, Hl7⟩
  ihave Hl4 := (show ringPay X c (4 : DmaSem sig).val ⊢ commPts (F := F) c (pairSet 0) fullShare.left (gathered X c) from BI.Entails.refl _) $$ Hl4
  ihave Hl5 := (show ringPay X c (5 : DmaSem sig).val ⊢ commPts (F := F) c (pairSet 0) fullShare.right.left (gathered X c) from BI.Entails.refl _) $$ Hl5
  ihave Hl6 := (show ringPay X c (6 : DmaSem sig).val ⊢ commPts (F := F) c (slotSet 2) fullShare.left (gathered X c) from BI.Entails.refl _) $$ Hl6
  ihave Hl7 := (show ringPay X c (7 : DmaSem sig).val ⊢ commPts (F := F) c (slotSet 5) fullShare.left (gathered X c) from BI.Entails.refl _) $$ Hl7
  -- the last two copies out
  iapply (wait_tile X W SX SW c 12 0 (bandOf c 6) _ inb_S2x512x2048_S1x512x2048_0_0_0 (k0_off5_inb c 1)) $$ [Hf0 HO]
  · isplitl [Hf0]; · iexact Hf0
    iexact HO
  iintro ⟨Hb6, Ht0, Hv0, HO⟩
  iapply (wait_tile X W SX SW c 13 1 (bandOf c 7) _ inb_S2x512x2048_S1x512x2048_1_0_0 (k0_off6_inb c 1)) $$ [Hf1 HO]
  · isplitl [Hf1]; · iexact Hf1
    iexact HO
  iintro ⟨Hb7, Ht1, Hv1, HO⟩
  rw [wp_ret]
  imod (close_all X K c) $$ [Ha0 Ha1 Ha2 Ha3 Ha4 Ha5 Ha6 Ha7 Ha8] with Hz
  · isplitr; · iexact HR
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexact Ha8
  imodintro
  iapply Hk
  unfold after operands scratch atRest storeSems outPts
  isplitl [HO]; · iexact HO
  isplitl [Hx Hw Hsx Hsw]
  · isplitl [Hx]; · iexact Hx
    isplitl [Hw]; · iexact Hw
    isplitl [Hsx]; · iexact Hsx
    iexact Hsw
  isplitl [Hl4 Hl5 Hs0 Hs1 Hl6 Hs2 Hs3 Hs4 Hl7 Hs5 Hs6 Hs7 Hwbf Ht0 Ht1]
  · isplitl [Hl4 Hl5 Hs0 Hs1 Hl6 Hs2 Hs3 Hs4 Hl7 Hs5 Hs6 Hs7]
    · iexists gathered X c
      iapply (comm_split c (gathered X c)).2
      isplitl [Hl4 Hl5 Hs0 Hs1]
      · iapply (share_split c (pairSet 0) fullShare (gathered X c)).2
        isplitl [Hl4]; · iexact Hl4
        iapply (share_split c (pairSet 0) fullShare.right (gathered X c)).2
        isplitl [Hl5]; · iexact Hl5
        iapply (pair_split c 0 fullShare.right.right (gathered X c)).2
        isplitl [Hs0] <;> iassumption
      isplitl [Hl6 Hs2 Hs3]
      · iapply (pair_split c 2 fullShare (gathered X c)).2
        isplitr [Hs3]
        · iapply (share_split c (slotSet 2) fullShare (gathered X c)).2
          isplitl [Hl6]; · iexact Hl6
          iexact Hs2
        iexact Hs3
      isplitl [Hs4 Hl7 Hs5]
      · iapply (pair_split c 4 fullShare (gathered X c)).2
        isplitl [Hs4]; · iexact Hs4
        iapply (share_split c (slotSet 5) fullShare (gathered X c)).2
        isplitl [Hl7]; · iexact Hl7
        iexact Hs5
      isplitl [Hs6] <;> iassumption
    isplitl [Hwbf]
    · iexists _; unfold wbfPts; iexact Hwbf
    iapply (stage_join c)
    isplitl [Ht0] <;> iassumption
  isplitl [Hb0 Hb1 Hb2 Hb3 Hb4 Hb5 Hb6 Hb7]
  · iapply (bands_join X W SX SW c)
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hz]; · iexact Hz
  isplitl [Hv0]; · iexact Hv0
  iexact Hv1

end Cert.GatherMatmul

end
-- ==== Proof.Ghost.lean ====
/-
# What the launch makes for each device

The cells' invariants, positions and tokens are minted once for the whole ring and then dealt: each device keeps its own
positions and gets the tokens of the payments it makes to its neighbours. The credit for a device's waits comes from what
the others owe it at launch.
-/
module

public import proofs.«01_k».proof.Proof.Body

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x4096.Idx → Elt F .i8)

/-! ## The cells and the tokens of the whole ring -/

theorem csem_injective : Function.Injective csem := by decide

theorem kcell_injective : Function.Injective kcell := by
  rintro ⟨c, k⟩ ⟨c', k'⟩ h
  obtain rfl : c = c' := congrArg (fun g : GSem nD τ sig => g.1.1) h
  exact Prod.ext rfl (csem_injective (congrArg Prod.snd h))

/-- All the ring's cells. -/
def ringCells : Finset (GSem nD τ sig) := Finset.univ.map ⟨kcell, kcell_injective⟩

/-- A device's ten payments, by cell and payer: the barrier's two, then one for each transfer semaphore. -/
def duty : Fin 10 → Fin 9 × Bool :=
  ![(0, false), (0, true), (1, false), (2, false), (3, false), (4, false), (5, false), (6, false), (7, false), (8, false)]
theorem duty_injective : Function.Injective duty := by decide

def tokOf (cj : Dev nD × Fin 10) : GSem nD τ sig × ℕ × Bool := (kcell (cj.1, (duty cj.2).1), 0, (duty cj.2).2)
theorem tokOf_injective : Function.Injective tokOf := by
  rintro ⟨c, j⟩ ⟨c', j'⟩ h
  have h1 := kcell_injective (congrArg Prod.fst h)
  have h2 : (duty j).2 = (duty j').2 := congrArg (fun x : GSem nD τ sig × ℕ × Bool => x.2.2) h
  obtain rfl : c = c' := congrArg Prod.fst h1
  exact Prod.ext rfl (duty_injective (Prod.ext (congrArg Prod.snd h1) h2))
def ringToks : Finset (GSem nD τ sig × ℕ × Bool) := Finset.univ.map ⟨tokOf, tokOf_injective⟩

/-- What is owned at launch: the pipeline's part, the ring's part, and counters at their unit. -/
def u₀ : UU :=
  (initOf (Pipeline.cells cfgs cellOf_inj) (Pipeline.launchToks cfgs cellOf_inj), (initOf ringCells ringToks, (1 : Counters)))

/-- The tokens of the payments made to device `c`. -/
def toks (c : Dev nD) : sProp 𝕄 := bigSep Finset.univ fun j : Fin 10 => dutyTok ER (kcell (c, (duty j).1)) 0 (duty j).2

omit [FloatOps F] in
theorem ten {M : Type} [URA M] (P : Fin 10 → sProp M) :
    bigSep Finset.univ P = iprop(P 0 ∗ P 1 ∗ P 2 ∗ P 3 ∗ P 4 ∗ P 5 ∗ P 6 ∗ P 7 ∗ P 8 ∗ P 9) := by
  rw [bigSep_univ_eq_bigSepL [0, 1, 2, 3, 4, 5, 6, 7, 8, 9] (by decide) (by decide)]
  simp only [bigSepL_cons_cons, bigSepL_singleton]
  rfl

/-- Device `c`'s share as minted. -/
def minted (c : Dev nD) : sProp 𝕄 :=
  iprop((bigSep Finset.univ fun k : Fin 9 => roundState ER (ringRd X) (kcell (c, k)) 0)
    ∗ positions (F := F) c ∗ (bigSep Finset.univ fun k : Fin 9 => reached ER (kcell (c, k)) 0) ∗ toks (F := F) c)

omit [FloatOps F] in
theorem over_cells (Φ : GSem nD τ sig → sProp 𝕄) :
    bigSep ringCells Φ = bigSep Finset.univ fun c : Dev nD => bigSep Finset.univ fun k : Fin 9 => Φ (kcell (c, k)) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks; rw [bigSep_map, bigSep_univ_prod]; rfl

omit [FloatOps F] in
/-- The ring's part of the launch pays for every device's share. -/
theorem fund_ring : BI.own (ER (initOf ringCells ringToks)) ⊢ (|==> bigSep Finset.univ (minted X) : sProp 𝕄) := by
  iintro H
  imod (Rounds.fund ER (ringRd X) ringCells ringToks) $$ H with ⟨Hst, Hr, Hat, Htok⟩
  imodintro
  ihave Hst' := (Entails.of_eq (over_cells fun g => roundState ER (ringRd X) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold minted positions; simp only [bigSep_sep']
  isplitl [Hst']; · iexact Hst'
  isplitl [Hat']; · iexact Hat'
  isplitl [Hr']; · iexact Hr'
  iexact Htok'

/-! ## The semaphores -/

/-- The kernel's own semaphores, in order: the four sends, the four receives, the two stores. -/
def osem (k : Fin 10) : SemLoc sig := .dma (⟨k.val + 4, by show k.val + 4 < 14; omega⟩ : Fin 14)

theorem ownSemFacts : Pipeline.OwnSemFacts cfg0.spec osem := by decide

abbrev ownZero (c : Dev nD) : sProp 𝕄 :=
  Pipeline.ownSems0 (Ix := Unit) (Name := ℕ) (U := UU) (Lvl := ℕ) (Val := Elt F) (τ := τ) osem c

omit [FloatOps F] in
theorem ownZero_eq (c : Dev nD) : (ownZero (F := F) c) = bigSep Finset.univ fun k : Fin 10 => semVal ((c : Thread nD τ), osem k) 0 := rfl
omit [FloatOps F] in
/-- The barrier is the one semaphore that outlives the kernel. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem atRest_of_sems (c : Dev nD) : iprop(ownZero (F := F) c ∗ unscopedSems0 c) ⊢ atRest (F := F) c := by
  rw [ownZero_eq, unscoped_eq, ten]; unfold atRest storeSems; rw [nine]
  iintro ⟨⟨H0, H1, H2, H3, H4, H5, H6, H7, H8, H9⟩, HB⟩
  isplitr [H8 H9]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · isplitl [H8]; · iexact H8
    iexact H9
omit [FloatOps F] in
theorem sems_of_atRest (c : Dev nD) : atRest (F := F) c ⊢ iprop(unscopedSems0 c ∗ ownZero (F := F) c) := by
  rw [ownZero_eq, unscoped_eq, ten]; unfold atRest storeSems; rw [nine]
  iintro ⟨⟨HB, H0, H1, H2, H3, H4, H5, H6, H7⟩, H8, H9⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The invariants, and the deal around the ring -/

/-- Device `c`'s share once its cells' invariants stand. -/
def opened (c : Dev nD) : sProp 𝕄 :=
  iprop((bigSep Finset.univ fun k : Fin 9 => iprop(∃ κ : ℕ, cellInv ER (ringRd X) κ (kcell (c, k))))
    ∗ (bigSep Finset.univ fun k : Fin 9 => reached ER (kcell (c, k)) 0)
    ∗ toks (F := F) c ∗ positions (F := F) c ∗ storeSems (F := F) c)

omit [FloatOps F] in
theorem open_cells (c : Dev nD) : iprop(ownZero (F := F) c ∗ unscopedSems0 c ∗ minted X c) ⊢ |={Set.univ}=> opened X c := by
  unfold minted opened
  iintro ⟨Hos, Hus, Hst, Hat, Hr, Htok⟩
  ihave H := (atRest_of_sems (F := F) c) $$ [Hos Hus]
  · isplitl [Hos] <;> iassumption
  unfold atRest
  icases H with ⟨Hv, Hz⟩
  imod (show iprop((bigSep Finset.univ fun k : Fin 9 => semVal (kcell (c, k)) 0) ∗ bigSep Finset.univ fun k : Fin 9 => roundState ER (ringRd X) (kcell (c, k)) 0)
      ⊢ (|={Set.univ}=> bigSep Finset.univ fun k : Fin 9 => iprop(∃ κ : ℕ, cellInv ER (ringRd X) κ (kcell (c, k))) : sProp 𝕄) from by
        rw [← bigSep_sep']
        exact (bigSep_mono fun k _ => (Rounds.body_intro ER (ringRd X) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · iexact Hat
  iexact Hz

omit [FloatOps F] in
/-- Each device gets the tokens of the payments it makes: those of its own sends, and its neighbours' barrier and receive
    tokens. -/
theorem deal : (bigSep Finset.univ fun c : Dev nD => (toks c : sProp 𝕄)) ⊢ bigSep Finset.univ fun c : Dev nD => payToks c := by
  unfold toks payToks
  simp only [ten]
  simp only [bigSep_sep']
  rw [bigSep_univ_equiv ring (fun c : Dev nD => (dutyTok ER (kcell (c, (duty 0).1)) 0 (duty 0).2 : sProp 𝕄)),
    bigSep_univ_equiv ring.symm (fun c : Dev nD => (dutyTok ER (kcell (c, (duty 1).1)) 0 (duty 1).2 : sProp 𝕄)),
    bigSep_univ_equiv ring (fun c : Dev nD => (dutyTok ER (kcell (c, (duty 6).1)) 0 (duty 6).2 : sProp 𝕄)),
    bigSep_univ_equiv ring.symm (fun c : Dev nD => (dutyTok ER (kcell (c, (duty 7).1)) 0 (duty 7).2 : sProp 𝕄)),
    bigSep_univ_equiv ring (fun c : Dev nD => (dutyTok ER (kcell (c, (duty 8).1)) 0 (duty 8).2 : sProp 𝕄)),
    bigSep_univ_equiv ring.symm (fun c : Dev nD => (dutyTok ER (kcell (c, (duty 9).1)) 0 (duty 9).2 : sProp 𝕄))]
  exact BI.Entails.refl _

omit [FloatOps F] in
theorem with_records (K : Dev nD × Fin 9 → ℕ) {Φ Ψ : Dev nD → sProp 𝕄} (h : ∀ c, iprop(records X K ∗ Φ c) ⊢ Ψ c) :
    iprop(records X K ∗ bigSep Finset.univ Φ) ⊢ bigSep Finset.univ Ψ :=
  (sep_mono_left (BI.bigSep_of_persistent Finset.univ (records X K))).trans (by rw [← bigSep_sep']; exact bigSep_mono fun c _ => h c)

omit [FloatOps F] in
theorem deal_all : bigSep Finset.univ (opened X) ⊢ bigSep Finset.univ (ghost X) := by
  unfold opened
  simp only [bigSep_sep']
  rw [← bigSep_univ_prod (fun ck : Dev nD × Fin 9 => iprop(∃ κ : ℕ, cellInv ER (ringRd X) κ (kcell ck))),
    ← bigSep_univ_prod (fun ck : Dev nD × Fin 9 => (reached ER (kcell ck) 0 : sProp 𝕄))]
  iintro ⟨HI, #HR, Htok, Hat, Hz⟩
  ihave HK := (BI.bigSep_exists_pi Finset.univ (fun (ck : Dev nD × Fin 9) (κ : ℕ) => (cellInv ER (ringRd X) κ (kcell ck) : sProp 𝕄))) $$ HI
  icases HK with ⟨%K, #HI⟩
  ihave Htk := (deal (F := F)) $$ Htok
  iapply (with_records X K (Φ := fun c => iprop(positions (F := F) c ∗ payToks (F := F) c ∗ storeSems (F := F) c)) fun c => by
    unfold ghost; iintro H; iexists K; iexact H)
  isplitr
  · unfold records; isplitl; · iexact HI
    iexact HR
  · simp only [bigSep_sep']
    isplitl [Hat]; · iexact Hat
    isplitl [Htk] <;> iassumption

omit [FloatOps F] in
/-- From every device's semaphores at zero and minted share, what each starts from. -/
theorem set_up : (bigSep Finset.univ fun c => iprop(ownZero (F := F) c ∗ unscopedSems0 c ∗ minted X c) : sProp 𝕄)
    ⊢ |={Set.univ}=> bigSep Finset.univ (ghost X) :=
  ((bigSep_mono fun c _ => open_cells X c).trans (bigSep_fupd _ _)).trans (BI.fupd_mono (deal_all X))

/-! ## The credit -/

omit [FloatOps F] in
/-- What the others owe device `c` at launch is the credit for its waits. -/
theorem credit_of_launch (c : Dev nD) : (Pipeline.launchCred D0 c : sProp 𝕄) ⊢ credits (F := F) c := by
  have e : (Pipeline.launchCred D0 c : sProp 𝕄) = iprop(((((Pipeline.launchCred (fun d => tallyAt (((prv d).tc : Thread nD τ), SemLoc.dma 11) () N1) c
      ∗ Pipeline.launchCred (fun d => tallyAt (((nxt d).tc : Thread nD τ), SemLoc.dma 10) () N1) c)
      ∗ Pipeline.launchCred (fun d => tallyAt (((prv d).tc : Thread nD τ), SemLoc.dma 9) () N2) c)
      ∗ Pipeline.launchCred (fun d => tallyAt (((nxt d).tc : Thread nD τ), SemLoc.dma 8) () N2) c)
      ∗ Pipeline.launchCred (fun d => tallyAt (((nxt d).tc : Thread nD τ), SemLoc.reg barS) () 1) c)
      ∗ Pipeline.launchCred (fun d => tallyAt (((prv d).tc : Thread nD τ), SemLoc.reg barS) () 1) c) := by
    rw [← Pipeline.launchCred_add, ← Pipeline.launchCred_add, ← Pipeline.launchCred_add, ← Pipeline.launchCred_add, ← Pipeline.launchCred_add]
    rfl
  rw [e]
  iintro ⟨⟨⟨⟨⟨H11, H10⟩, H9⟩, H8⟩, Hn⟩, Hp⟩
  ihave H11 := (Pipeline.launchCred_tallyAt (.dma 11) prv nxt prv_nxt nxt_prv () N1 c) $$ H11
  ihave H10 := (Pipeline.launchCred_tallyAt (.dma 10) nxt prv nxt_prv prv_nxt () N1 c) $$ H10
  ihave H9 := (Pipeline.launchCred_tallyAt (.dma 9) prv nxt prv_nxt nxt_prv () N2 c) $$ H9
  ihave H8 := (Pipeline.launchCred_tallyAt (.dma 8) nxt prv nxt_prv prv_nxt () N2 c) $$ H8
  ihave Hn := (Pipeline.launchCred_tallyAt (.reg barS) nxt prv nxt_prv prv_nxt () 1 c) $$ Hn
  ihave Hp := (Pipeline.launchCred_tallyAt (.reg barS) prv nxt prv_nxt nxt_prv () 1 c) $$ Hp
  unfold credits
  isplitl [Hn Hp]
  · rw [show (2 : ℕ) = 1 + 1 from rfl, ← tallyAt_add]
    iapply (cred_add _ _).2
    isplitl [Hn] <;> iassumption
  isplitl [H8]; · iexact H8
  isplitl [H9]; · iexact H9
  isplitl [H10]; · iexact H10
  iexact H11

end Cert.GatherMatmul

end
-- ==== Proof.Launch.lean ====
/-
# The run of the whole program

The launch puts the kernel's body on each of the four devices, stages the operands and afterwards gives the memory back.
The program's run: the arguments unchanged, each device's result finished, every semaphore at zero.
-/
module

public import proofs.«01_k».proof.Proof.Ghost
public import proofs.«01_k».proof.Proof.Gen.KernelIdeal.Points
public import proofs.«01_k».proof.Proof.Gen.KernelIdeal.Frame
public import Idealize.ShloMosaic.Lib.Pipeline.Value
public import Idealize.ShloMosaic.Lib.Pipeline.CollectiveSegs

@[expose] public section

noncomputable section

namespace Cert.GatherMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The operands -/

/-- Device `c`'s rows of `x`, columns of `w` and scales, as launched. -/
def X₀ (c : Dev nD) : S1024x4096.Idx → Elt F .i8 := m ((c : Thread nD τ).loc main_arg0)
def W₀ (c : Dev nD) : S4096x2048.Idx → Elt F .i8 := m ((c : Thread nD τ).loc main_arg1)
def SX₀ (c : Dev nD) : S1.Idx → Elt F .f32 := m ((c : Thread nD τ).loc main_arg2)
def SW₀ (c : Dev nD) : S1.Idx → Elt F .f32 := m ((c : Thread nD τ).loc main_arg3)

/-- The finished result of device `c`. -/
def result (c : Dev nD) : S4096x2048.Idx → Elt F .f32 := resultOf (X₀ m) (W₀ m) (SX₀ m) (SW₀ m) c

/-! ## The one grid point, before and after -/

/-- What device `c` holds besides the operands and the kernel's own buffers: at the start -/
def start (c : Dev nD) : sProp 𝕄 :=
  iprop(ghost (X₀ m) c ∗ levAts L lv ∗ credits (F := F) c ∗ ∃ f, outPts (F := F) c f)
/-- and at the end. -/
def done (c : Dev nD) : sProp 𝕄 := iprop(outPts (F := F) c (result m c) ∗ atRest (F := F) c)

def dats (_ : Fin 1) (c : Dev nD) : Dat τ (Elt F) Unit ℕ UU ℕ cfg0 c where
  A w := m ((cfg0.win w).arr.view.loc (c : Thread nD τ))
  after w _ := match w with
    | ⟨0, _⟩ => X₀ m c
    | ⟨1, _⟩ => W₀ m c
    | ⟨2, _⟩ => SX₀ m c
    | ⟨3, _⟩ => SW₀ m c
  Φ t := match t with
    | ⟨0, _⟩ => iprop(start m c ∗ scratch (F := F) c)
    | ⟨_ + 1, _⟩ => iprop(done m c ∗ scratch (F := F) c)
  q _ := fullShare
  owed t := match t with
    | ⟨0, _⟩ => D0 c
    | ⟨_ + 1, _⟩ => 0

theorem staged_x (c : Dev nD) (d) : (dats m 0 c).before (0 : Fin 4) t0_0 d = X₀ m c := by
  unfold Dat.before; rw [if_pos (fetch0_0 _)]
  funext y
  show X₀ m c ((win0_0.blk (0 : Fin 1)).view.emb y) = X₀ m c y
  refine congrArg _ (funext fun a => Fin.ext ?_)
  exact Pipeline.Window.rect_emb_val_of_index_zero win0_0 t0_0 a rfl y
theorem staged_w (c : Dev nD) (d) : (dats m 0 c).before (1 : Fin 4) t0_0 d = W₀ m c := by
  unfold Dat.before; rw [if_pos (fetch0_1 _)]
  funext y
  show W₀ m c ((win0_1.blk (0 : Fin 1)).view.emb y) = W₀ m c y
  refine congrArg _ (funext fun a => Fin.ext ?_)
  exact Pipeline.Window.rect_emb_val_of_index_zero win0_1 t0_0 a rfl y
theorem staged_sx (c : Dev nD) (d) : (dats m 0 c).before (2 : Fin 4) t0_0 d = SX₀ m c := by
  unfold Dat.before; rw [if_pos (fetch0_2 _)]
  funext y
  show SX₀ m c ((win0_2.blk (0 : Fin 1)).view.emb y) = SX₀ m c y
  refine congrArg _ (funext fun a => Fin.ext ?_)
  exact Pipeline.Window.rect_emb_val_of_index_zero win0_2 t0_0 a rfl y
theorem staged_sw (c : Dev nD) (d) : (dats m 0 c).before (3 : Fin 4) t0_0 d = SW₀ m c := by
  unfold Dat.before; rw [if_pos (fetch0_3 _)]
  funext y
  show SW₀ m c ((win0_3.blk (0 : Fin 1)).view.emb y) = SW₀ m c y
  refine congrArg _ (funext fun a => Fin.ext ?_)
  exact Pipeline.Window.rect_emb_val_of_index_zero win0_3 t0_0 a rfl y

/-- A staging buffer at contents `f`, as the pipeline states it. -/
abbrev held (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

omit [FloatOps F] in
theorem owns_held (c : Dev nD) (b : Ref sig .tc) (f : b.ty.Contents (Elt F)) :
    (owns (Ix := Unit) (Name := ℕ) (U := UU) (Lvl := ℕ) (c : Thread nD τ) (Memref.whole b) fullShare f : sProp 𝕄) = held c b f := by
  unfold owns; simp only [Memref.view_whole, View.read_whole, View.set_whole]

def atStart (c : Dev nD) : sProp 𝕄 :=
  iprop((start m c ∗ scratch (F := F) c) ∗ (dats m 0 c).owesAt () t0_0.castSucc
    ∗ (∃ d, held c cc0_stg0_0 ((dats m 0 c).before (0 : Fin 4) t0_0 d)) ∗ (∃ d, held c cc0_stg1_0 ((dats m 0 c).before (1 : Fin 4) t0_0 d))
    ∗ (∃ d, held c cc0_stg2_0 ((dats m 0 c).before (2 : Fin 4) t0_0 d)) ∗ (∃ d, held c cc0_stg3_0 ((dats m 0 c).before (3 : Fin 4) t0_0 d)))
def atEnd (c : Dev nD) : sProp 𝕄 :=
  iprop((done m c ∗ scratch (F := F) c) ∗ (dats m 0 c).owesAt () t0_0.succ
    ∗ held c cc0_stg0_0 (X₀ m c) ∗ held c cc0_stg1_0 (W₀ m c) ∗ held c cc0_stg2_0 (SX₀ m c) ∗ held c cc0_stg3_0 (SW₀ m c))

theorem before_of_start (c : Dev nD) : atStart m c ⊢ before (X₀ m) (W₀ m) (SX₀ m) (SW₀ m) c := by
  unfold atStart start before operands Dat.owesAt Pipeline.owesWithin owesSome
  iintro ⟨⟨⟨Hg, Hlev, Hcr, Hout⟩, Hscr⟩, ⟨%P, -, HO⟩, ⟨%d0, %g0, %h0, H0⟩, ⟨%d1, %g1, %h1, H1⟩, ⟨%d2, %g2, %h2, H2⟩, ⟨%d3, %g3, %h3, H3⟩⟩
  obtain rfl : g0 = X₀ m c := h0.trans (staged_x m c d0)
  obtain rfl : g1 = W₀ m c := h1.trans (staged_w m c d1)
  obtain rfl : g2 = SX₀ m c := h2.trans (staged_sx m c d2)
  obtain rfl : g3 = SW₀ m c := h3.trans (staged_sw m c d3)
  isplitl [Hg]; · iexact Hg
  isplitl [Hlev]; · iexact Hlev
  isplitl [Hcr]; · iexact Hcr
  isplitl [HO]; · iexists P; iexact HO
  isplitl [H0 H1 H2 H3]
  · isplitl [H0]; · iexact H0
    isplitl [H1]; · iexact H1
    isplitl [H2]; · iexact H2
    iexact H3
  isplitl [Hscr]; · iexact Hscr
  iexact Hout

theorem end_of_after (c : Dev nD) : after (X₀ m) (W₀ m) (SX₀ m) (SW₀ m) c ⊢ atEnd m c := by
  unfold atEnd done after operands Dat.owesAt Pipeline.owesWithin owesSome result
  iintro ⟨⟨%P, HO⟩, ⟨H0, H1, H2, H3⟩, Hscr, Hout, Hz⟩
  isplitl [Hout Hz Hscr]
  · isplitr [Hscr]
    · isplitl [Hout]; · iexact Hout
      iexact Hz
    · iexact Hscr
  isplitl [HO]
  · iexists P
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 8000 in
/-- The pipeline's obligation on the body, met by the body's proof. -/
theorem body_met (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_held]
  show atStart m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5) (fun _ => atEnd m c)
  iintro H
  ihave Hb := (before_of_start m c) $$ H
  iapply (sound_body (X₀ m) (W₀ m) (SX₀ m) (SW₀ m) c fun _ => atEnd m c)
  isplitl [Hb]; · iexact Hb
  iintro Ha
  iapply (end_of_after m c) $$ Ha

/-! ## The launch's side conditions -/

theorem share_full (c : Dev nD) (w : Fin cfg0.W) : (dats m 0 c).share w = fullShare := by unfold Dat.share; split <;> rfl

theorem start_of_launch (c : Dev nD) :
    iprop(Pipeline.unscopedRestP Pipeline.Prefetch.none cfg0.spec c (fun b => m ((c : Thread nD τ).loc b)) ∗ levAts L lv
        ∗ Pipeline.launchCred D0 c ∗ prngReg c (ρ c) ∗ ghost (X₀ m) c)
      ⊢ |={Set.univ}=> iprop(start m c ∗ emp) := by
  rw [Pipeline.unscopedRestP_none, show ∀ V, (Pipeline.unscopedRest cfg0.spec c V : sProp 𝕄) = _ from unscopedRest0_eq c]
  iintro ⟨Hout, Hlev, Hcr, -, Hg⟩
  ihave Hc := (credit_of_launch (F := F) c) $$ Hcr
  imodintro
  unfold start outPts
  isplitl
  · isplitl [Hg]; · iexact Hg
    isplitl [Hlev]; · iexact Hlev
    isplitl [Hc]; · iexact Hc
    iexists _; iexact Hout
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl,
    show (Pipeline.scopedRest cfg0.spec c : sProp 𝕄) = scratch (F := F) c from scopedRest0_eq c]
  iintro ⟨Hs, -, Hr⟩
  isplitl [Hs] <;> iassumption

/-- What a device keeps once the kernel's own semaphores and buffers are given back. -/
def kept (c : Dev nD) : sProp 𝕄 := iprop(unscopedSems0 c ∗ outPts (F := F) c (result m c))

theorem phi_out (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = iprop(done m c ∗ scratch (F := F) c) from rfl,
    show (Pipeline.scopedRest cfg0.spec c : sProp 𝕄) = scratch (F := F) c from scopedRest0_eq c]
  unfold done kept
  iintro ⟨⟨Hout, Hz⟩, Hr⟩
  ihave H := (sems_of_atRest (F := F) c) $$ Hz
  icases H with ⟨Hu, Hos⟩
  isplitl [Hu Hout]; · isplitl [Hu] <;> iassumption
  isplitl [Hos] <;> iassumption

theorem stage_low (w : Fin 4) (s : Fin (cfg0.win w).nbuf) (c : Dev nD) : lv ((c : Thread nD τ), .dma ((cfg0.win w).sem s)) () ≤ 0 := by
  fin_cases w <;> fin_cases s <;> exact Nat.le_refl 0

theorem waits (c : Dev nD) : (levAts L lv : sProp 𝕄) ⊢ Pipeline.cellsWaits cfgs (dats m) () 0 c :=
  Pipeline.cellsWaits_intro cfgs (dats m) () 0 c fun w s t => may_wait 0 c _ (stage_low w s c) _ (by
    rcases t with ⟨_ | _, ht⟩
    · exact above_D0 c
    · exact above_zero 0)

/-! ## The run -/

/-- What a device's final memory is read at. -/
def Finished (c : Dev nD) (s : MemSt nD τ sig (Elt F)) : Prop :=
  s.mem ((c : Thread nD τ).loc main_v1) = result m c ∧ ∀ sm : SemLoc sig, sm.isScoped .tc = false → s.sem ((c.tc : Thread nD τ), sm) = 0

theorem read_kept (c : Dev nD) (s' : Phys nD τ sig (Elt F)) :
    iprop(kept m c ∗ emp ∗ SI s') ⊢ |={Set.univ}=> iprop(⌜Finished m c s'.mem⌝ ∗ SI s') := by
  unfold kept outPts
  iintro ⟨⟨Hu, Hout⟩, -, HSI⟩
  ihave H := (persistent_entails_right (SI_pointsTo_agree (st := s') (ℓ := (c : Thread nD τ).loc main_v1) (I := Finset.univ) (q := fullShare) (f := result m c))) $$ [HSI Hout]
  · isplitl [HSI] <;> iassumption
  icases H with ⟨%hv, HSI, -⟩
  imod (Pipeline.unscopedSems0_read (X := unscopedSems0 c) (c := c) fupd_intro s') $$ [Hu HSI] with ⟨%hz, HSI⟩
  · isplitl [Hu] <;> iassumption
  imodintro
  isplitr
  · ipureintro; exact ⟨funext fun i => hv i (Finset.mem_univ i), hz⟩
  · iexact HSI

set_option maxRecDepth 8000 in
/-- For any float values and any memory with every semaphore at zero: every fair execution of the program on its four
    devices ends, with each device's result finished, its arguments unchanged and every semaphore at zero. -/
theorem run_main : θ_run defs (onTc (τ := τ) (main (F := F))) ⟨m, fun _ => 0, ρ⟩ (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_met m) (hne := block_pos0) (harr := arr_whole0) (hstage := stage_whole0) (hshare := share_full m)
    (hdistinct := winFacts0.arr_inj)
    (O₀ := D0) (howed₀ := fun _ => rfl) (howedN := fun _ => rfl)
    (L := L) (lv := lv) (hL := L_of_ne) (hwaits := waits m)
    (G := minted (X₀ m)) (G' := ghost (X₀ m)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (show BI.own (((Emb.inl : Emb UB (UB × Counters)).trans embR) (initOf ringCells ringToks)) ⊢ (BI.own (ER (initOf ringCells ringToks)) : sProp 𝕄) from
        BI.Entails.refl _) $$ HX
      imod (fund_ring (X₀ m)) $$ HX with HG
      imodintro
      isplitl [HP] <;> iassumption)
    (hglob := set_up (X₀ m))
    (hA := fun _ _ => rfl) (hpf := fun _ k => k.elim0)
    (X := start m) (Y := kept m) (Z := fun _ => iprop(emp))
    (hX := start_of_launch m ρ) (hin := phi_in m) (hout := phi_out m)
    (QY := Finished m) (hY := read_kept m)
    (hQ := fun s h hs => ⟨fun c => ⟨(h c).2.2.1,
        ((h c).1 (0 : Fin 4)).trans ((dats m 0 c).arrAt_in (0 : Fin 4) rfl _), ((h c).1 (1 : Fin 4)).trans ((dats m 0 c).arrAt_in (1 : Fin 4) rfl _),
        ((h c).1 (2 : Fin 4)).trans ((dats m 0 c).arrAt_in (2 : Fin 4) rfl _), ((h c).1 (3 : Fin 4)).trans ((dats m 0 c).arrAt_in (3 : Fin 4) rfl _)⟩,
      sem_eq_zero hs fun c => (h c).2.2.2⟩)

end Cert.GatherMatmul

end
-- ==== Proof.Value.lean ====
/-
# The value

At exact arithmetic: one entry of a device's result and the same entry of the reference are both a row of `x` times a
column of `w`, times the product of the two scales. Every device's result is therefore its block of columns of the
reference's.
-/
module

public import proofs.«01_k».proof.Proof.Contents
public import proofs.«01_k».proof.Proof.Gen.ReferenceIdeal
public import Idealize.ShloMosaic.Lib.Layout
public import Idealize.ShloMosaic.Lib.MatmulPlain
public import Idealize.ShloMosaic.Lib.StackMember

@[expose] public section

noncomputable section

namespace Cert.GatherMatmul

open Cert.KernelIdeal Cert.KernelIdeal.Gen
open Idealize.ShloMosaic Idealize.ShloMosaic.TcCoe
open Idealize.ShloMosaic.ValueIdx (ix1 ix2 ix3)
open scoped BigOperators

/-- The number that an eight-bit word stands for. -/
def num (b : BitVec 8) : EReal := ((b.toInt : ℝ) : EReal)

/-! ## The kernel -/

/-- Half `h` of a block, with its leading coordinate dropped and converted: row `r` is the block's row
`h % 2 * 512 + r`. -/
theorem half_entry (x : S1024x4096.Idx → Elt Ideal .i8) (h : ℕ) (r : Fin 512) (k : Fin 4096) :
    (sitofp .bf16 (shapeCast S512x4096 (halfRows (F := Ideal) x h) shapeCasts_S1x512x4096_S512x4096) : FVec Ideal S512x4096 .bf16)
      (ix2 r k) = num (x (ix2 ⟨h % 2 * 512 + r.val, by have := r.isLt; omega⟩ k)) := by
  rw [ValueIdx.sitofp_apply, shapeCast_apply _ _ (ix2 r k) (ix3 (0 : Fin 1) r k) (by
    rw [Shape.rowMajor_val_three, Shape.rowMajor_val_two]
    show (0 * 512 + r.val) * 4096 + k.val = r.val * 4096 + k.val
    omega)]
  rfl

/-- The weights as the kernel keeps them are the weights, converted. -/
theorem weight_entry (w : S4096x2048.Idx → Elt Ideal .i8) (i : S4096x2048.Idx) :
    (k0_pay3 (F := Ideal) w : FVec Ideal S4096x2048 .bf16) i = num (w i) := by
  unfold k0_pay3
  rw [shapeCast_self, shapeCast_self]
  rfl

/-- One entry of a tile: the sum of products along a row of the half and a column of the weights, times the product of
the scales. -/
theorem tile_entry (X : Dev nD → S1024x4096.Idx → Elt Ideal .i8) (W : Dev nD → S4096x2048.Idx → Elt Ideal .i8)
    (SX SW : Dev nD → S1.Idx → Elt Ideal .f32) (c d : Dev nD) (h : ℕ) (r : Fin 512) (l : Fin 2048) :
    tileOf X W SX SW c d h (ix2 r l)
      = (∑ k : Fin 4096, num (X d (ix2 ⟨h % 2 * 512 + r.val, by have := r.isLt; omega⟩ k)) * num (W c (ix2 k l)))
        * (((SX c (ix1 0) : EReal)) * (SW c (ix1 0) : EReal)) := by
  refine congrArg₂ (fun a b : EReal => a * b) ?_ ?_
  · refine (Ideal.matmul_plain_apply (M := 512) (K := 4096) (N := 2048) none _ _ _ r l).trans ?_
    show Ideal.ofBits .f32 0x00000000#32 + _ = _
    rw [Ideal.ofBits_zero_f32, zero_add]
    exact Finset.sum_congr rfl fun k _ => congrArg₂ (fun a b : EReal => a * b) (half_entry _ _ _ _) (weight_entry _ _)
  · refine congrArg₂ (fun a b : EReal => a * b) (congrArg (SX c) ?_) (congrArg (SW c) ?_) <;>
    · funext a; match a with | ⟨0, _⟩ => rfl

/-! ## The reference -/

/-- The reference's result, as a function of its four arguments. -/
def refOut (x : (⟨2, ![4096, 4096]⟩ : Shape).Idx → Elt Ideal .i8) (w : (⟨2, ![4096, 8192]⟩ : Shape).Idx → Elt Ideal .i8)
    (sx sw : (⟨1, ![1]⟩ : Shape).Idx → Elt Ideal .f32) : (⟨2, ![4096, 8192]⟩ : Shape).Idx → Elt Ideal .f32 :=
  mulf (F := Ideal) (φ := .f32)
    (Host.dotGeneral (F := Ideal) (φ₁ := .f32) (φ₂ := .f32) ReferenceIdeal.dot_S4096x4096_S4096x8192_S4096x8192_1_0_0_1_n_n none
      (sitofp (F := Ideal) .f32 (extsi 32 x ReferenceIdeal.Gen.natLt_8_32)) (sitofp (F := Ideal) .f32 (extsi 32 w ReferenceIdeal.Gen.natLt_8_32)))
    (broadcastInDim ReferenceIdeal.S4096x8192 ![0, 1] ReferenceIdeal.Gen.bcast_S1x1_S4096x8192_0_1
      (broadcastInDim ReferenceIdeal.S1x1 ![1] ReferenceIdeal.Gen.bcast_S1_S1x1_1 (mulf (F := Ideal) (φ := .f32) sx sw)))

/-- Widening an eight-bit word to 32 bits keeps its number. -/
theorem widened {s : Shape} (x : s.Idx → BitVec 8) (h : 8 < 32) (i : s.Idx) :
    (sitofp (F := Ideal) .f32 (extsi 32 x h) : FVec Ideal s .f32) i = num (x i) := by
  show ((((x i).signExtend 32).toInt : ℝ) : EReal) = _
  rw [BitVec.toInt_signExtend_of_le (by decide)]
  rfl

/-- One entry of the reference. -/
theorem reference_entry (x : (⟨2, ![4096, 4096]⟩ : Shape).Idx → Elt Ideal .i8) (w : (⟨2, ![4096, 8192]⟩ : Shape).Idx → Elt Ideal .i8)
    (sx sw : (⟨1, ![1]⟩ : Shape).Idx → Elt Ideal .f32) (r : Fin 4096) (l : Fin 8192) :
    refOut x w sx sw (ix2 r l)
      = (∑ k : Fin 4096, num (x (ix2 r k)) * num (w (ix2 k l))) * ((sx (ix1 0) : EReal) * (sw (ix1 0) : EReal)) := by
  refine congrArg₂ (fun a b : EReal => a * b) ?_ ?_
  · refine (StackMember.dotGeneral_plain_apply (m := 4096) (k := 4096) (n := 8192) none _ _ r l).trans ?_
    exact Finset.sum_congr rfl fun k _ => congrArg₂ (fun a b : EReal => a * b) (widened _ _ _) (widened _ _ _)
  · rw [broadcastInDim_apply _ _ _ _ (ix2 (0 : Fin 1) (0 : Fin 1)) (by intro a; match a with | ⟨0, _⟩ => rfl | ⟨1, _⟩ => rfl),
      broadcastInDim_apply _ _ _ _ (ix1 (0 : Fin 1)) (by intro a; match a with | ⟨0, _⟩ => rfl)]
    rfl

/-! ## The two together -/

/-- If device `c` starts from block `c` of the rows of `x`, block `c` of the columns of `w` and both scales, its result
is block `c` of the columns of the reference's result. -/
theorem result_block (X : Dev nD → S1024x4096.Idx → Elt Ideal .i8) (W : Dev nD → S4096x2048.Idx → Elt Ideal .i8)
    (SX SW : Dev nD → S1.Idx → Elt Ideal .f32) (x : (⟨2, ![4096, 4096]⟩ : Shape).Idx → Elt Ideal .i8)
    (w : (⟨2, ![4096, 8192]⟩ : Shape).Idx → Elt Ideal .i8) (sx sw : (⟨1, ![1]⟩ : Shape).Idx → Elt Ideal .f32)
    (tx : Layout.Tiles ⟨2, ![1024, 4096]⟩ ⟨2, ![4096, 4096]⟩ 0 4) (tw : Layout.Tiles ⟨2, ![4096, 2048]⟩ ⟨2, ![4096, 8192]⟩ 1 4)
    (hx : ∀ c, X c = Layout.block ⟨2, ![1024, 4096]⟩ ⟨2, ![4096, 4096]⟩ 0 4 c x tx)
    (hw : ∀ c, W c = Layout.block ⟨2, ![4096, 2048]⟩ ⟨2, ![4096, 8192]⟩ 1 4 c w tw)
    (hsx : ∀ c, SX c = sx) (hsw : ∀ c, SW c = sw) (c : Dev nD) :
    resultOf X W SX SW c = Layout.block ⟨2, ![4096, 2048]⟩ ⟨2, ![4096, 8192]⟩ 1 4 c (refOut x w sx sw) tw := by
  funext i
  have h0 : (i 0).val < 4096 := (i 0).isLt
  have h1 : (i 1).val < 2048 := (i 1).isLt
  have hc : c.val < 4 := c.isLt
  have hcol : tw.idx c i = ix2 (⟨(i 0).val, h0⟩ : Fin 4096) (⟨c.val * 2048 + (i 1).val, by omega⟩ : Fin 8192) := by
    funext a; match a with | ⟨0, _⟩ => rfl | ⟨1, _⟩ => rfl
  rw [Layout.block_apply, hcol, reference_entry]
  unfold resultOf
  rw [tile_entry, hsx, hsw]
  refine congrArg₂ (fun a b : EReal => a * b) (Finset.sum_congr rfl fun k _ =>
    congrArg₂ (fun a b : EReal => a * b) (congrArg num ?_) (congrArg num ?_)) rfl
  · rw [hx, Layout.block_apply]
    refine congrArg x (funext fun a => Fin.ext ?_)
    match a with
    | ⟨0, _⟩ =>
      show (i 0).val / 1024 * 1024 + ((i 0).val / 512 % 2 * 512 + (i 0).val % 512) = (i 0).val
      omega
    | ⟨1, _⟩ => rfl
  · rw [hw, Layout.block_apply]
    refine congrArg w (funext fun a => ?_)
    match a with | ⟨0, _⟩ => rfl | ⟨1, _⟩ => rfl

end Cert.GatherMatmul

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The two programs run the same kernel body: their texts are the same, one call at a time. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So all they call is the same. -/
theorem defs_eq : Cert.Kernel.defs (F := Bits) = Cert.KernelIdeal.defs (F := Bits) :=
  congrArg (Pipeline.defs Cert.KernelIdeal.pcfgs) bodies_eq

/-- The kernel on the machine's own floats: it ends on every device, its arguments unchanged, its semaphores at zero. The
two programs have the same text, so this is the run proved once over any float values. -/
theorem frame_kernel : Cert.quiescent_Kernel := by
  intro m g _
  rw [defs_eq]
  have h := (θ_run (Cert.KernelIdeal.defs (F := Bits)) _ _).mono
    (fun _ h => And.intro (fun c => (h.1 c).2) h.2) (Cert.GatherMatmul.run_main (F := Bits) m g)
  exact h

/-- The same at exact arithmetic. -/
theorem frame_kernelIdeal : Cert.quiescent_KernelIdeal := fun m g _ =>
  (θ_run Cert.KernelIdeal.defs _ _).mono (fun _ h => ⟨fun c => (h.1 c).2, h.2⟩)
    (Cert.GatherMatmul.run_main (F := Ideal) m g)

/-- The reference ends with its arguments unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference's result, at its arguments as launched. -/
def whole (m' : (ℓ : Loc Cert.ReferenceIdeal.nD Cert.ReferenceIdeal.τ Cert.ReferenceIdeal.sig) → Buf (Elt Ideal) ℓ) :
    (⟨2, ![4096, 8192]⟩ : Shape).Idx → Elt Ideal .f32 :=
  Cert.GatherMatmul.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))

/-- At exact arithmetic, on agreeing arguments, each device of the kernel ends with its block of columns of the
reference's result. -/
theorem algebraic : Cert.algebraic_KernelIdeal_ReferenceIdeal := fun m g m' g' _ hagree =>
  ⟨whole m',
    (θ_run Cert.KernelIdeal.defs _ _).mono
      (fun _ h c => ⟨(h.1 c).1.trans (Cert.GatherMatmul.result_block (Cert.GatherMatmul.X₀ m) (Cert.GatherMatmul.W₀ m)
          (Cert.GatherMatmul.SX₀ m) (Cert.GatherMatmul.SW₀ m) _ _ _ _ (by decide) (by decide) (fun d => (hagree d).1)
          (fun d => (hagree d).2.1) (fun d => (hagree d).2.2.1) (fun d => (hagree d).2.2.2) c), (h.1 c).2⟩)
      (Cert.GatherMatmul.run_main (F := Ideal) m g),
    (θ_run Cert.ReferenceIdeal.defs _ _).mono (fun _ h => ⟨(h 0).1, (h 0).2⟩) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
